-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite [hPre_finite : Cert.Pre_finite.Facts] (m : (ℓ : Loc Cert.TailIdeal.nD Cert.TailIdeal.τ Cert.TailIdeal.sig) → Buf (Elt Ideal) ℓ) : Prop :=
  ∀ c : Dev Cert.TailIdeal.nD,
    (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1))).1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1))).2 = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite [hPre_finite : Cert.Pre_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1))).1 = (fun _ => 1#1)
    ∧ (Cert.Pre_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailIdeal_pre_finite [hTailIdeal : Cert.TailIdeal.Facts] [hPre_finite : Cert.Pre_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1))
      ∧ r.2.sem = fun _ => 0)

def quiescent_TailReferenceIdeal_pre_finite [hTailReferenceIdeal : Cert.TailReferenceIdeal.Facts] [hPre_finite : Cert.Pre_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v9)) (v7 : (c : Dev Cert.KernelIdeal.nD) → Buf (Elt Ideal) ((c.tc : Thread Cert.KernelIdeal.nD Cert.KernelIdeal.τ).loc Cert.KernelIdeal.main_v1_6)) (v8 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_v1_6) = v7 c
          ∧ r.2.mem ((c.tc : Thread Cert.KernelIdeal.nD Cert.KernelIdeal.τ).loc Cert.KernelIdeal.main_v10) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v17_0) = v3 c
          ∧ r.2.mem ((c.tc : Thread Cert.ReferenceIdeal.nD Cert.ReferenceIdeal.τ).loc Cert.ReferenceIdeal.main_v17_1) = v4 c
          ∧ r.2.mem ((c.tc : Thread Cert.ReferenceIdeal.nD Cert.ReferenceIdeal.τ).loc Cert.ReferenceIdeal.main_v32_0) = v5 c
          ∧ r.2.mem ((c.tc : Thread Cert.ReferenceIdeal.nD Cert.ReferenceIdeal.τ).loc Cert.ReferenceIdeal.main_v32_1) = v6 c
          ∧ r.2.mem ((c.tc : Thread Cert.ReferenceIdeal.nD Cert.ReferenceIdeal.τ).loc Cert.ReferenceIdeal.main_v47_0) = v7 c
          ∧ r.2.mem ((c.tc : Thread Cert.ReferenceIdeal.nD Cert.ReferenceIdeal.τ).loc Cert.ReferenceIdeal.main_v47_1) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Tail_TailIdeal : Prop :=
  True

def algebraic_TailIdeal_TailReferenceIdeal_pre_finite [hTailIdeal : Cert.TailIdeal.Facts] [hTailReferenceIdeal : Cert.TailReferenceIdeal.Facts] [hPre_finite : Cert.Pre_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5_0) = v0 c
          ∧ r.2.mem ((c.tc : Thread Cert.TailIdeal.nD Cert.TailIdeal.τ).loc Cert.TailIdeal.main_v5_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v27) = v0 c
          ∧ r.2.mem ((c.tc : Thread Cert.TailReferenceIdeal.nD Cert.TailReferenceIdeal.τ).loc Cert.TailReferenceIdeal.main_v28) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Tail (hTail := hTail)
    ∧ quiescent_TailIdeal (hTailIdeal := hTailIdeal)
    ∧ quiescent_TailIdeal_pre_finite (hTailIdeal := hTailIdeal) (hPre_finite := hPre_finite)
    ∧ quiescent_TailReferenceIdeal (hTailReferenceIdeal := hTailReferenceIdeal)
    ∧ quiescent_TailReferenceIdeal_pre_finite (hTailReferenceIdeal := hTailReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Tail_TailIdeal
    ∧ algebraic_TailIdeal_TailReferenceIdeal_pre_finite (hTailIdeal := hTailIdeal) (hTailReferenceIdeal := hTailReferenceIdeal) (hPre_finite := hPre_finite)
-- ==== Pre_finite.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) : IVec S2048x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  (main_v2, main_v5)
-- ==== Kernel.lean ====
abbrev S2x128x2048 : Shape := ⟨3, ![2, 128, 2048]⟩
abbrev S5632x2048 : Shape := ⟨2, ![5632, 2048]⟩
abbrev S2048x2048 : Shape := ⟨2, ![2048, 2048]⟩
abbrev S256x2048 : Shape := ⟨2, ![256, 2048]⟩
abbrev S1x256 : Shape := ⟨2, ![1, 256]⟩
abbrev S1x5632 : Shape := ⟨2, ![1, 5632]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S256x256 : Shape := ⟨2, ![256, 256]⟩
abbrev S_ : Shape := ⟨0, ![]⟩
abbrev S2x128 : Shape := ⟨2, ![2, 128]⟩
abbrev S5632 : Shape := ⟨1, ![5632]⟩

abbrev nBuf : Space → Nat
  | .hbm => 25
  | .vmem => 24
  | .smem => 0
  | _ => 0

abbrev bufTy : (tb : Table) → Fin (tcTables nBuf tb) → BufTy
  | .hbm, ⟨0, _⟩ => ⟨S2x128x2048, .bf16⟩
  | .hbm, ⟨1, _⟩ => ⟨S5632x2048, .bf16⟩
  | .hbm, ⟨2, _⟩ => ⟨S5632x2048, .bf16⟩
  | .hbm, ⟨3, _⟩ => ⟨S2048x2048, .bf16⟩
  | .hbm, ⟨4, _⟩ => ⟨S256x2048, .bf16⟩
  | .hbm, ⟨5, _⟩ => ⟨S2048x2048, .f32⟩
  | .hbm, ⟨6, _⟩ => ⟨S1x256, .f32⟩
  | .hbm, ⟨7, _⟩ => ⟨S256x2048, .i8⟩
  | .hbm, ⟨8, _⟩ => ⟨S1x256, .f32⟩
  | .hbm, ⟨9, _⟩ => ⟨S5632x2048, .i8⟩
  | .hbm, ⟨10, _⟩ => ⟨S1x5632, .f32⟩
  | .hbm, ⟨11, _⟩ => ⟨S5632x2048, .i8⟩
  | .hbm, ⟨12, _⟩ => ⟨S1x5632, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S2x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x128x2048, .i8⟩
  | .hbm, ⟨22, _⟩ => ⟨S2x128, .f32⟩
  | .hbm, ⟨23, _⟩ => ⟨S5632, .f32⟩
  | .hbm, ⟨24, _⟩ => ⟨S5632, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S2048x2048, .bf16⟩
  | .local _ .vmem, ⟨6, _⟩ => ⟨S2048x2048, .f32⟩
  | .local _ .vmem, ⟨7, _⟩ => ⟨S1x256, .f32⟩
  | .local _ .vmem, ⟨8, _⟩ => ⟨S256x2048, .i8⟩
  | .local _ .vmem, ⟨9, _⟩ => ⟨S1x256, .f32⟩
  | .local _ .vmem, ⟨10, _⟩ => ⟨S256x2048, .i8⟩
  | .local _ .vmem, ⟨11, _⟩ => ⟨S256x2048, .i8⟩
  | .local _ .vmem, ⟨12, _⟩ => ⟨S1x256, .f32⟩
  | .local _ .vmem, ⟨13, _⟩ => ⟨S1x256, .f32⟩
  | .local _ .vmem, ⟨14, _⟩ => ⟨S256x2048, .i8⟩
  | .local _ .vmem, ⟨15, _⟩ => ⟨S256x2048, .i8⟩
  | .local _ .vmem, ⟨16, _⟩ => ⟨S1x256, .f32⟩
  | .local _ .vmem, ⟨17, _⟩ => ⟨S1x256, .f32⟩
  | .local _ .vmem, ⟨18, _⟩ => ⟨S256x2048, .bf16⟩
  | .local _ .vmem, ⟨19, _⟩ => ⟨S256x2048, .f32⟩
  | .local _ .vmem, ⟨20, _⟩ => ⟨S512x2048, .bf16⟩
  | .local _ .vmem, ⟨21, _⟩ => ⟨S512x2048, .bf16⟩
  | .local _ .vmem, ⟨22, _⟩ => ⟨S512x256, .bf16⟩
  | .local _ .vmem, ⟨23, _⟩ => ⟨S512x2048, .bf16⟩
  | _, _ => ⟨S2x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x128x2048 : Shape := ⟨3, ![2, 128, 2048]⟩
abbrev S5632x2048 : Shape := ⟨2, ![5632, 2048]⟩
abbrev S2048x2048 : Shape := ⟨2, ![2048, 2048]⟩
abbrev S_ : Shape := ⟨0, ![]⟩
abbrev S2x128 : Shape := ⟨2, ![2, 128]⟩
abbrev S2x128x1 : Shape := ⟨3, ![2, 128, 1]⟩
abbrev S5632 : Shape := ⟨1, ![5632]⟩
abbrev S5632x1 : Shape := ⟨2, ![5632, 1]⟩
abbrev S2x128x5632 : Shape := ⟨3, ![2, 128, 5632]⟩
abbrev S1x1x5632 : Shape := ⟨3, ![1, 1, 5632]⟩

abbrev nBuf : Space → Nat
  | .hbm => 173
  | .vmem => 0
  | .smem => 0
  | _ => 0

abbrev hbmTy0_0 (i : Nat) : BufTy := match i % 128 with
  | 0 => ⟨S2x128x2048, .bf16⟩
  | 1 => ⟨S5632x2048, .bf16⟩
  | 2 => ⟨S5632x2048, .bf16⟩
  | 3 => ⟨S2048x2048, .bf16⟩
  | 4 => ⟨S2x128x2048, .f32⟩
  | 5 => ⟨S5632x2048, .f32⟩
  | 6 => ⟨S5632x2048, .f32⟩
  | 7 => ⟨S2x128x2048, .f32⟩
  | 8 => ⟨S_, .f32⟩
  | 9 => ⟨S2x128, .f32⟩
  | 10 => ⟨S_, .f32⟩
  | 11 => ⟨S2x128, .f32⟩
  | 12 => ⟨S2x128, .i1⟩
  | 13 => ⟨S_, .f32⟩
  | 14 => ⟨S2x128, .f32⟩
  | 15 => ⟨S2x128, .f32⟩
  | 16 => ⟨S_, .f32⟩
  | 17 => ⟨S_, .f32⟩
  | 18 => ⟨S2x128, .f32⟩
  | 19 => ⟨S2x128, .f32⟩
  | 20 => ⟨S2x128x1, .f32⟩
  | 21 => ⟨S2x128x2048, .f32⟩
  | 22 => ⟨S2x128x2048, .f32⟩
  | 23 => ⟨S2x128x2048, .f32⟩
  | 24 => ⟨S_, .f32⟩
  | 25 => ⟨S_, .f32⟩
  | 26 => ⟨S_, .f32⟩
  | 27 => ⟨S2x128x2048, .f32⟩
  | 28 => ⟨S2x128x2048, .f32⟩
  | 29 => ⟨S_, .f32⟩
  | 30 => ⟨S2x128x2048, .f32⟩
  | 31 => ⟨S2x128x2048, .f32⟩
  | 32 => ⟨S2x128x2048, .i32⟩
  | 33 => ⟨S2x128x2048, .i8⟩
  | 34 => ⟨S2x128x2048, .i8⟩
  | 35 => ⟨S2x128, .f32⟩
  | 36 => ⟨S5632x2048, .f32⟩
  | 37 => ⟨S_, .f32⟩
  | 38 => ⟨S5632, .f32⟩
  | 39 => ⟨S_, .f32⟩
  | 40 => ⟨S5632, .f32⟩
  | 41 => ⟨S5632, .i1⟩
  | 42 => ⟨S_, .f32⟩
  | 43 => ⟨S5632, .f32⟩
  | 44 => ⟨S5632, .f32⟩
  | 45 => ⟨S_, .f32⟩
  | 46 => ⟨S_, .f32⟩
  | 47 => ⟨S5632, .f32⟩
  | 48 => ⟨S5632, .f32⟩
  | 49 => ⟨S5632x1, .f32⟩
  | 50 => ⟨S5632x2048, .f32⟩
  | 51 => ⟨S5632x2048, .f32⟩
  | 52 => ⟨S5632x2048, .f32⟩
  | 53 => ⟨S_, .f32⟩
  | 54 => ⟨S_, .f32⟩
  | 55 => ⟨S_, .f32⟩
  | 56 => ⟨S5632x2048, .f32⟩
  | 57 => ⟨S5632x2048, .f32⟩
  | 58 => ⟨S_, .f32⟩
  | 59 => ⟨S5632x2048, .f32⟩
  | 60 => ⟨S5632x2048, .f32⟩
  | 61 => ⟨S5632x2048, .i32⟩
  | 62 => ⟨S5632x2048, .i8⟩
  | 63 => ⟨S5632x2048, .i8⟩
  | 64 => ⟨S5632, .f32⟩
  | 65 => ⟨S5632x2048, .f32⟩
  | 66 => ⟨S_, .f32⟩
  | 67 => ⟨S5632, .f32⟩
  | 68 => ⟨S_, .f32⟩
  | 69 => ⟨S5632, .f32⟩
  | 70 => ⟨S5632, .i1⟩
  | 71 => ⟨S_, .f32⟩
  | 72 => ⟨S5632, .f32⟩
  | 73 => ⟨S5632, .f32⟩
  | 74 => ⟨S_, .f32⟩
  | 75 => ⟨S_, .f32⟩
  | 76 => ⟨S5632, .f32⟩
  | 77 => ⟨S5632, .f32⟩
  | 78 => ⟨S5632x1, .f32⟩
  | 79 => ⟨S5632x2048, .f32⟩
  | 80 => ⟨S5632x2048, .f32⟩
  | 81 => ⟨S5632x2048, .f32⟩
  | 82 => ⟨S_, .f32⟩
  | 83 => ⟨S_, .f32⟩
  | 84 => ⟨S_, .f32⟩
  | 85 => ⟨S5632x2048, .f32⟩
  | 86 => ⟨S5632x2048, .f32⟩
  | 87 => ⟨S_, .f32⟩
  | 88 => ⟨S5632x2048, .f32⟩
  | 89 => ⟨S5632x2048, .f32⟩
  | 90 => ⟨S5632x2048, .i32⟩
  | 91 => ⟨S5632x2048, .i8⟩
  | 92 => ⟨S5632x2048, .i8⟩
  | 93 => ⟨S5632, .f32⟩
  | 94 => ⟨S2x128x2048, .i32⟩
  | 95 => ⟨S2x128x2048, .f32⟩
  | 96 => ⟨S2x128x2048, .bf16⟩
  | 97 => ⟨S5632x2048, .i32⟩
  | 98 => ⟨S5632x2048, .f32⟩
  | 99 => ⟨S5632x2048, .bf16⟩
  | 100 => ⟨S5632x2048, .i32⟩
  | 101 => ⟨S5632x2048, .f32⟩
  | 102 => ⟨S5632x2048, .bf16⟩
  | 103 => ⟨S2x128x5632, .f32⟩
  | 104 => ⟨S2x128x1, .f32⟩
  | 105 => ⟨S2x128x5632, .f32⟩
  | 106 => ⟨S2x128x5632, .f32⟩
  | 107 => ⟨S1x1x5632, .f32⟩
  | 108 => ⟨S2x128x5632, .f32⟩
  | 109 => ⟨S2x128x5632, .f32⟩
  | 110 => ⟨S2x128x5632, .f32⟩
  | 111 => ⟨S2x128x5632, .f32⟩
  | 112 => ⟨S2x128x5632, .f32⟩
  | 113 => ⟨S2x128x1, .f32⟩
  | 114 => ⟨S2x128x5632, .f32⟩
  | 115 => ⟨S2x128x5632, .f32⟩
  | 116 => ⟨S1x1x5632, .f32⟩
  | 117 => ⟨S2x128x5632, .f32⟩
  | 118 => ⟨S2x128x5632, .f32⟩
  | 119 => ⟨S2x128x5632, .f32⟩
  | 120 => ⟨S2x128x5632, .f32⟩
  | 121 => ⟨S2x128x5632, .f32⟩
  | 122 => ⟨S_, .f32⟩
  | 123 => ⟨S2x128, .f32⟩
  | 124 => ⟨S_, .f32⟩
  | 125 => ⟨S2x128, .f32⟩
  | 126 => ⟨S2x128, .f32⟩
  | 127 => ⟨S2x128x5632, .f32⟩
  | _ => ⟨S2x128x2048, .bf16⟩

abbrev hbmTy0_1 (i : Nat) : BufTy := match i % 128 with
  | 0 => ⟨S_, .f32⟩
  | 1 => ⟨S2x128, .f32⟩
  | 2 => ⟨S_, .f32⟩
  | 3 => ⟨S2x128, .f32⟩
  | 4 => ⟨S2x128, .f32⟩
  | 5 => ⟨S2x128, .f32⟩
  | 6 => ⟨S_, .f32⟩
  | 7 => ⟨S_, .f32⟩
  | 8 => ⟨S_, .f32⟩
  | 9 => ⟨S_, .f32⟩
  | 10 => ⟨S_, .f32⟩
  | 11 => ⟨S2x128x5632, .f32⟩
  | 12 => ⟨S2x128x5632, .f32⟩
  | 13 => ⟨S_, .f32⟩
  | 14 => ⟨S2x128x5632, .f32⟩
  | 15 => ⟨S2x128x5632, .f32⟩
  | 16 => ⟨S1x1x5632, .f32⟩
  | 17 => ⟨S2x128x5632, .f32⟩
  | 18 => ⟨S2x128x5632, .f32⟩
  | 19 => ⟨S2x128x5632, .bf16⟩
  | 20 => ⟨S2x128x2048, .f32⟩
  | 21 => ⟨S1x1x5632, .f32⟩
  | 22 => ⟨S2x128x5632, .f32⟩
  | 23 => ⟨S2x128x5632, .f32⟩
  | 24 => ⟨S2x128x5632, .bf16⟩
  | 25 => ⟨S2x128x2048, .f32⟩
  | 26 => ⟨S2x128x2048, .f32⟩
  | 27 => ⟨S2x128x1, .f32⟩
  | 28 => ⟨S2x128x5632, .f32⟩
  | 29 => ⟨S2x128x5632, .f32⟩
  | 30 => ⟨S2x128x5632, .bf16⟩
  | 31 => ⟨S5632x2048, .f32⟩
  | 32 => ⟨S2x128x1, .f32⟩
  | 33 => ⟨S2x128x5632, .f32⟩
  | 34 => ⟨S2x128x5632, .f32⟩
  | 35 => ⟨S2x128x5632, .bf16⟩
  | 36 => ⟨S5632x2048, .f32⟩
  | 37 => ⟨S2x128x2048, .bf16⟩
  | 38 => ⟨S2048x2048, .f32⟩
  | 39 => ⟨S5632x2048, .bf16⟩
  | 40 => ⟨S2048x2048, .f32⟩
  | 41 => ⟨S2048x2048, .f32⟩
  | 42 => ⟨S5632x2048, .bf16⟩
  | 43 => ⟨S2048x2048, .f32⟩
  | 44 => ⟨S2048x2048, .f32⟩
  | _ => ⟨S2x128x2048, .bf16⟩

abbrev hbmTy (i : Nat) : BufTy := match i / 128 with
  | 0 => hbmTy0_0 i
  | 1 => hbmTy0_1 i
  | _ => ⟨S2x128x2048, .bf16⟩

abbrev bufTy : (tb : Table) → Fin (tcTables nBuf tb) → BufTy
  | .hbm, ⟨i, _⟩ => hbmTy i
  | _, _ => ⟨S2x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_cst_10 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32_0 : Ref sig .tc := ⟨.hbm, 63, rfl⟩
abbrev main_v32_1 : Ref sig .tc := ⟨.hbm, 64, rfl⟩
abbrev main_v33 : Ref sig .tc := ⟨.hbm, 65, rfl⟩
abbrev main_cst_11 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_cst_14 : Ref sig .tc := ⟨.hbm, 74, rfl⟩
abbrev main_call6_v0 : Ref sig .tc := ⟨.hbm, 75, rfl⟩
abbrev main_call6_v1 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_15 : Ref sig .tc := ⟨.hbm, 82, rfl⟩
abbrev main_cst_16 : Ref sig .tc := ⟨.hbm, 83, rfl⟩
abbrev main_call8_v0 : Ref sig .tc := ⟨.hbm, 84, rfl⟩
abbrev main_call8_v1 : Ref sig .tc := ⟨.hbm, 85, rfl⟩
abbrev main_call8_v2 : Ref sig .tc := ⟨.hbm, 86, rfl⟩
abbrev main_call8_v3 : Ref sig .tc := ⟨.hbm, 87, rfl⟩
abbrev main_call8_v4 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47_0 : Ref sig .tc := ⟨.hbm, 92, rfl⟩
abbrev main_v47_1 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_17 : Ref sig .tc := ⟨.hbm, 122, rfl⟩
abbrev main_v76 : Ref sig .tc := ⟨.hbm, 123, rfl⟩
abbrev main_cst_18 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_19 : Ref sig .tc := ⟨.hbm, 128, rfl⟩
abbrev main_v80 : Ref sig .tc := ⟨.hbm, 129, rfl⟩
abbrev main_cst_20 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_21 : Ref sig .tc := ⟨.hbm, 134, rfl⟩
abbrev main_v84 : Ref sig .tc := ⟨.hbm, 135, rfl⟩
abbrev main_cst_22 : Ref sig .tc := ⟨.hbm, 136, rfl⟩
abbrev main_v85 : Ref sig .tc := ⟨.hbm, 137, rfl⟩
abbrev main_cst_23 : Ref sig .tc := ⟨.hbm, 138, rfl⟩
abbrev main_v86 : Ref sig .tc := ⟨.hbm, 139, rfl⟩
abbrev main_v87 : Ref sig .tc := ⟨.hbm, 140, rfl⟩
abbrev main_cst_24 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩

abbrev nD : Nat := 1
abbrev τ : Topo := Topo.v7x

variable {F : FTy → Type} [FloatOps F]
-- ==== Tail.lean ====
abbrev S2048x2048 : Shape := ⟨2, ![2048, 2048]⟩
abbrev S256x2048 : Shape := ⟨2, ![256, 2048]⟩
abbrev S8x128 : Shape := ⟨2, ![8, 128]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩

abbrev nBuf : Space → Nat
  | .hbm => 17
  | .vmem => 62
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S8x128, .f32⟩
  | .hbm, ⟨8, _⟩ => ⟨S2048x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .f32⟩
  | .hbm, ⟨16, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S8x128, .f32⟩
  | .local _ .vmem, ⟨22, _⟩ => ⟨S256x2048, .f32⟩
  | .local _ .vmem, ⟨23, _⟩ => ⟨S256x2048, .f32⟩
  | .local _ .vmem, ⟨24, _⟩ => ⟨S2048x2048, .bf16⟩
  | .local _ .vmem, ⟨25, _⟩ => ⟨S2048x2048, .bf16⟩
  | .local _ .vmem, ⟨26, _⟩ => ⟨S2048x2048, .bf16⟩
  | .local _ .vmem, ⟨27, _⟩ => ⟨S8x128, .f32⟩
  | .local _ .vmem, ⟨28, _⟩ => ⟨S256x2048, .f32⟩
  | .local _ .vmem, ⟨29, _⟩ => ⟨S256x2048, .f32⟩
  | .local _ .vmem, ⟨30, _⟩ => ⟨S256x2048, .bf16⟩
  | .local _ .vmem, ⟨31, _⟩ => ⟨S256x2048, .bf16⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | .local _ .vmem, ⟨36, _⟩ => ⟨S256x2048, .f32⟩
  | .local _ .vmem, ⟨37, _⟩ => ⟨S256x2048, .f32⟩
  | .local _ .vmem, ⟨38, _⟩ => ⟨S2048x2048, .bf16⟩
  | .local _ .vmem, ⟨39, _⟩ => ⟨S2048x2048, .bf16⟩
  | .local _ .vmem, ⟨40, _⟩ => ⟨S2048x2048, .bf16⟩
  | .local _ .vmem, ⟨41, _⟩ => ⟨S8x128, .f32⟩
  | .local _ .vmem, ⟨42, _⟩ => ⟨S256x2048, .f32⟩
  | .local _ .vmem, ⟨43, _⟩ => ⟨S256x2048, .f32⟩
  | .local _ .vmem, ⟨44, _⟩ => ⟨S256x2048, .bf16⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S256x2048, .bf16⟩
  | .local _ .vmem, ⟨50, _⟩ => ⟨S256x2048, .f32⟩
  | .local _ .vmem, ⟨51, _⟩ => ⟨S256x2048, .f32⟩
  | .local _ .vmem, ⟨52, _⟩ => ⟨S2048x2048, .bf16⟩
  | .local _ .vmem, ⟨53, _⟩ => ⟨S2048x2048, .bf16⟩
  | .local _ .vmem, ⟨54, _⟩ => ⟨S2048x2048, .bf16⟩
  | .local _ .vmem, ⟨55, _⟩ => ⟨S8x128, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc4_stg8_0 : Ref sig .tc := ⟨.vmem, 48, rfl⟩
abbrev cc4_stg8_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc5_stg6_0 : Ref sig .tc := ⟨.vmem, 58, rfl⟩
abbrev cc5_stg6_1 : Ref sig .tc := ⟨.vmem, 59, rfl⟩
abbrev cc5_stg7_0 : Ref sig .tc := ⟨.vmem, 60, rfl⟩
abbrev cc5_stg7_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem7_1 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45
abbrev cc4_sem7_0 : DmaSem sig := 46
abbrev cc4_sem7_1 : DmaSem sig := 47
abbrev cc4_sem8_0 : DmaSem sig := 48
abbrev cc4_sem8_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57
abbrev cc5_sem6_0 : DmaSem sig := 58
abbrev cc5_sem6_1 : DmaSem sig := 59
abbrev cc5_sem7_0 : DmaSem sig := 60
abbrev cc5_sem7_1 : DmaSem sig := 61

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x2048 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x2048 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x2048 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x2048 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x2048 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2048x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2048x2048 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S256x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x2048 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x2048 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]
-- ==== TailReferenceIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.KbBase.lean ====
/- The front call: where its body branches, where its outputs are left alone, its staging and scratch
   buffers, and the values one grid point leaves, written over the values the body computes. -/
module

public import proofs.«01_k».proof.Proof.Gen.Kernel.Frame
public import proofs.«01_k».proof.Proof.Gen.Kernel.Skeleton
public import Idealize.ShloMosaic.Lib.Pipeline.TableIdle
public import Idealize.ShloMosaic.Lib.Pipeline.Value

@[expose] public section

set_option maxRecDepth 16384

noncomputable section

namespace Cert.Kernel.Front

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's last `scf.if`: the point is the last one. -/
def k0_cond2 (i : grid0.Coords) : BitVec 1 :=
  Scalar.cmpi .ne (Scalar.extui (Scalar.cmpi .eq (BitVec.ofNat 32 (i 0).val) 21#32) : BitVec 32) 0#32

/-- The condition of the body's `scf.if` 0 (`k0_h1`), from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, k0_cond1, e0]
    word_cmp
   : ∀ t : Fin grid0.N, cond0_0 (grid0.coords t) ↔ t.val % 22 = 0)

/-- The condition of the body's `scf.if` 1 (`k0_h2`), from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 22 = 21 :=
  (fun t => by
    have ht : t.val < 22 := Nat.lt_of_lt_of_eq t.isLt N_0
    have e0 : (grid0.coords t 0).val = t.val / 1 % 22 := Pipeline.Grid.coords_val t 0 (by decide) rfl
    simp only [cond0_1, k0_cond2, e0]
    word_cmp
   : ∀ t : Fin grid0.N, cond0_1 (grid0.coords t) ↔ t.val % 22 = 21)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
/-- Output 6 is stored at the first point only. -/
theorem liveAt0_6 : ∀ t : Fin cfg0.N, t.val = 0 → cfg0.idle 6 (grid0.coords t) = false := by decide +kernel
theorem idleAt0_6 : ∀ t : Fin cfg0.N, t.val ≠ 0 → cfg0.idle 6 (grid0.coords t) = true := by decide +kernel
theorem notFresh0_6 : ∀ t : Fin cfg0.N, t.val ≠ 0 → cfg0.fresh 6 t.val = false := by
  have h : ∀ t : Fin cfg0.N, cfg0.fresh 6 t.val = decide (t.val = 0) := fun t =>
    Pipeline.Cfg.fresh_tab cfg0 6 (fun n => match n with | 0 => true | n + 1 => (0x200000 : ℕ).testBit n) rfl (by decide +kernel) t.val (Nat.le_of_lt t.isLt) |>.trans (by revert t; decide +kernel)
  intro t ht; rw [h t]; simp [ht]
theorem noFlush0_6 : ∀ t : Fin cfg0.N, t.val ≠ 21 → (cfg0.win 6).flush t = false := by decide +kernel
theorem flushLast0_6 : ∀ t : Fin cfg0.N, t.val = 21 → (cfg0.win 6).flush t = true := by decide +kernel
/-- Output 7 is stored at the first point only. -/
theorem liveAt0_7 : ∀ t : Fin cfg0.N, t.val = 0 → cfg0.idle 7 (grid0.coords t) = false := by decide +kernel
theorem idleAt0_7 : ∀ t : Fin cfg0.N, t.val ≠ 0 → cfg0.idle 7 (grid0.coords t) = true := by decide +kernel
theorem notFresh0_7 : ∀ t : Fin cfg0.N, t.val ≠ 0 → cfg0.fresh 7 t.val = false := by
  have h : ∀ t : Fin cfg0.N, cfg0.fresh 7 t.val = decide (t.val = 0) := fun t =>
    Pipeline.Cfg.fresh_tab cfg0 7 (fun n => match n with | 0 => true | n + 1 => (0x200000 : ℕ).testBit n) rfl (by decide +kernel) t.val (Nat.le_of_lt t.isLt) |>.trans (by revert t; decide +kernel)
  intro t ht; rw [h t]; simp [ht]
theorem noFlush0_7 : ∀ t : Fin cfg0.N, t.val ≠ 21 → (cfg0.win 7).flush t = false := by decide +kernel
theorem flushLast0_7 : ∀ t : Fin cfg0.N, t.val = 21 → (cfg0.win 7).flush t = true := by decide +kernel
/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x2048 .bf16 := Memref.whole cc0_scratch0
abbrev scM0_1 : Memref sig .tc .vmem S256x2048 .f32 := Memref.whole cc0_scratch1
abbrev scM0_2 : Memref sig .tc .vmem S512x2048 .bf16 := Memref.whole cc0_scratch2
abbrev scM0_3 : Memref sig .tc .vmem S512x2048 .bf16 := Memref.whole cc0_scratch3
abbrev scM0_4 : Memref sig .tc .vmem S512x256 .bf16 := Memref.whole cc0_scratch4
abbrev scM0_5 : Memref sig .tc .vmem S512x2048 .bf16 := Memref.whole cc0_scratch5
/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## What one point computes, over what it reads -/

/-- Two 256-row halves, one under the other. -/
def stk (a b : Vec F S256x2048 .bf16) : Vec F S512x2048 .bf16 :=
  View.canon [⟨Rect.unit (s := S512x2048) ![256, 0] S256x2048.size inb_S512x2048_S256x2048_256_0, b⟩,
    ⟨Rect.unit (s := S512x2048) ![0, 0] S256x2048.size inb_S512x2048_S256x2048_0_0, a⟩]

/-- The same for halves of 256 columns. -/
def stkN (a b : Vec F S256x256 .bf16) : Vec F S512x256 .bf16 :=
  View.canon [⟨Rect.unit (s := S512x256) ![256, 0] S256x256.size inb_S512x256_S256x256_256_0, b⟩,
    ⟨Rect.unit (s := S512x256) ![0, 0] S256x256.size inb_S512x256_S256x256_0_0, a⟩]

section
variable (x w w2 : Vec F S256x2048 .bf16) (r : Vec F S2048x2048 .bf16) (xs : Vec F S1x256 .f32) (xcb : Vec F S256x2048 .bf16)

/-- The loss row after the first weight block, -/
def lossStep1 (acc : Vec F S1x256 .f32) : Vec F S1x256 .f32 :=
  k0_pay24 (k0_pay14 xs) w (k0_pay17 w r) (k0_pay20 w r) xcb x acc
/-- and after both. -/
def lossStep (acc : Vec F S1x256 .f32) : Vec F S1x256 .f32 :=
  k0_pay37 (k0_pay14 xs) w2 (k0_pay31 w2 r) (k0_pay34 w2 r) xcb x (lossStep1 x w r xs xcb acc)
/-- The accumulated gradient of the rotated input after the point. -/
def dxrStep (acc : Vec F S256x2048 .f32) : Vec F S256x2048 .f32 :=
  k0_pay1 acc
    (stkN (k0_pay26 (k0_pay14 xs) w (k0_pay17 w r) (k0_pay20 w r) xcb x) (k0_pay39 (k0_pay14 xs) w2 (k0_pay31 w2 r) (k0_pay34 w2 r) xcb x))
    (stk (k0_pay20 w r) (k0_pay34 w2 r))
/-- The accumulated gradient of the rotation after the point. -/
def gStep (acc : Vec F S2048x2048 .f32) : Vec F S2048x2048 .f32 :=
  k0_pay2 acc (stk (k0_pay15 w) (k0_pay29 w2))
    (stk (k0_pay28 (k0_pay27 (k0_pay14 xs) w (k0_pay17 w r) (k0_pay20 w r) xcb x xcb))
      (k0_pay40 (k0_pay14 xs) w2 (k0_pay31 w2 r) (k0_pay34 w2 r) xcb x xcb))
end

/-! ## Reading back what the body stored -/

section
variable {n k : ℕ} {e : EltTy} {sp : Space} {κ : Kind}

theorem zz : (![0, 0] : Fin 2 → ℕ) = fun _ => 0 := by funext a; fin_cases a <;> rfl

/-- A buffer whose last store covers it holds that store's payload. -/
theorem read_store {S : Shape} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon _ _ _ (fun y => ⟨_, List.mem_cons_self, View.mem_set_unit_zero h inb y⟩)).trans (View.canon_cons_unit_zero h inb w L)

/-- A load of a whole buffer reads its contents. -/
theorem readAt_unread {S : Shape} (arg : Memref sig κ sp S e) (harg : arg.IsWhole) {off : Fin S.rank → ℕ} (h : off = fun _ => 0)
    (inb : ∀ a, off a + S.size a ≤ S.size a) (x : S.Idx → Elt F e) :
    View.readAt (Elt F) arg.view (Rect.unit off S.size inb).toLoadRect (harg.unread x) = x :=
  (View.readAt_eq_ld _ _ _).trans ((congrArg (fun X => View.ld X _) (harg.read_unread x)).trans (View.ld_unit_zero h inb x))

/-- The same at a matrix buffer, the extents spelt out. -/
theorem readAt_unread2 (arg : Memref sig κ sp (⟨2, ![n, k]⟩ : Shape) e) (harg : arg.IsWhole)
    (inb : ∀ a, (![0, 0] : Fin 2 → ℕ) a + (![n, k] : Fin 2 → ℕ) a ≤ (![n, k] : Fin 2 → ℕ) a) (x : (⟨2, ![n, k]⟩ : Shape).Idx → Elt F e) :
    View.readAt (Elt F) arg.view (Rect.unit (s := (⟨2, ![n, k]⟩ : Shape)) ![0, 0] ![n, k] inb).toLoadRect (harg.unread x) = x :=
  readAt_unread arg harg zz inb x

theorem readCov_stk (v : View sig κ sp S512x2048 .bf16) (inb) (a b : Vec F S256x2048 .bf16) :
    v.readCov [(⟨Rect.unit (s := S512x2048) ![256, 0] S256x2048.size inb_S512x2048_S256x2048_256_0, b⟩ : View.Piece (Elt F) S512x2048 .bf16),
      ⟨Rect.unit (s := S512x2048) ![0, 0] S256x2048.size inb_S512x2048_S256x2048_0_0, a⟩]
      (Rect.unit (s := S512x2048) ![0, 0] S512x2048.size inb).toLoadRect = stk a b :=
  (View.readCov_eq_canon' _ _ _).trans (View.ld_unit_zero zz inb _)

theorem readCov_stkN (v : View sig κ sp S512x256 .bf16) (inb) (a b : Vec F S256x256 .bf16) :
    v.readCov [(⟨Rect.unit (s := S512x256) ![256, 0] S256x256.size inb_S512x256_S256x256_256_0, b⟩ : View.Piece (Elt F) S512x256 .bf16),
      ⟨Rect.unit (s := S512x256) ![0, 0] S256x256.size inb_S512x256_S256x256_0_0, a⟩]
      (Rect.unit (s := S512x256) ![0, 0] S512x256.size inb).toLoadRect = stkN a b :=
  (View.readCov_eq_canon' _ _ _).trans (View.ld_unit_zero zz inb _)
end

end Cert.Kernel.Front

end
-- ==== Proof.KbRunA.lean ====
/- The front call's body at a point that is the first: what it leaves in every buffer. -/
module

public import proofs.«01_k».proof.Proof.KbBase

@[expose] public section

set_option maxRecDepth 16384

noncomputable section

namespace Cert.Kernel.Front

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point that is the first, from what every buffer holds to what every buffer is left with. -/
theorem run_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S2048x2048 .f32) (harg5 : arg5.IsWhole) (arg6 : Memref sig .tc .vmem S1x256 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x2048 .i8) (harg9 : arg9.IsWhole) (arg10 : Memref sig .tc .vmem S1x256 .f32) (harg10 : arg10.IsWhole) (arg11 : Memref sig .tc .vmem S256x2048 .i8) (harg11 : arg11.IsWhole) (arg12 : Memref sig .tc .vmem S1x256 .f32) (harg12 : arg12.IsWhole) (arg13 : Memref sig .tc .vmem S256x2048 .bf16) (harg13 : arg13.IsWhole) (arg14 : Memref sig .tc .vmem S256x2048 .f32) (harg14 : arg14.IsWhole) (arg15 : Memref sig .tc .vmem S512x2048 .bf16) (harg15 : arg15.IsWhole) (arg16 : Memref sig .tc .vmem S512x2048 .bf16) (harg16 : arg16.IsWhole) (arg17 : Memref sig .tc .vmem S512x256 .bf16) (harg17 : arg17.IsWhole) (arg18 : Memref sig .tc .vmem S512x2048 .bf16) (harg18 : arg18.IsWhole) (hc0 : cond0_0 i) (hc1 : ¬cond0_1 i)
    (x : Vec F S256x2048 .bf16) (w : Vec F S256x2048 .bf16) (w2 : Vec F S256x2048 .bf16) (r : Vec F S2048x2048 .bf16) (E : Set ℕ) (K : PUnit → sProp 𝕄) :
    iprop(owns (c : Thread nD τ) arg1 fullShare x ∗ owns (c : Thread nD τ) arg2 fullShare w ∗ owns (c : Thread nD τ) arg3 fullShare w2 ∗ owns (c : Thread nD τ) arg4 fullShare r ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare (gStep x w w2 r (k0_pay9 x r) (k0_pay8 x r) k0_pay13) ∗ owns (c : Thread nD τ) arg6 fullShare (lossStep x w w2 r (k0_pay9 x r) (k0_pay8 x r) k0_pay10) ∗ owns (c : Thread nD τ) arg7 fullShare (k0_pay7 x r) ∗ owns (c : Thread nD τ) arg8 fullShare (k0_pay9 x r) ∗ owns (c : Thread nD τ) arg9 fullShare (k0_pay19 w r) ∗ owns (c : Thread nD τ) arg10 fullShare (k0_pay22 (k0_pay21 w r)) ∗ owns (c : Thread nD τ) arg11 fullShare (k0_pay33 w2 r) ∗ owns (c : Thread nD τ) arg12 fullShare (k0_pay35 w2 r) ∗ owns (c : Thread nD τ) arg13 fullShare (k0_pay8 x r) ∗ owns (c : Thread nD τ) arg14 fullShare (dxrStep x w w2 r (k0_pay9 x r) (k0_pay8 x r) (k0_pay12 k0_pay11)) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; sl_unfold_run_names; rw [read_store _ _ zz]; simp only [readAt_unread2, View.readCov_cons_toLoadRect]; unfold gStep; exact (congrArg₂ (k0_pay2 _) (readCov_stk _ _ _ _) (readCov_stk _ _ _ _))
  isplitl [H6]
  · iexists _; isplitr; swap; · iexact H6
    ipureintro; sl_unfold_run_names; rw [read_store _ _ zz]; simp only [readAt_unread2, View.readCov_cons_toLoadRect]; rfl
  isplitl [H7]
  · iexists _; isplitr; swap; · iexact H7
    ipureintro; sl_unfold_run_names; rw [read_store _ _ zz]; simp only [readAt_unread2, View.readCov_cons_toLoadRect]
  isplitl [H8]
  · iexists _; isplitr; swap; · iexact H8
    ipureintro; sl_unfold_run_names; rw [read_store _ _ zz]; simp only [readAt_unread2, View.readCov_cons_toLoadRect]
  isplitl [H9]
  · iexists _; isplitr; swap; · iexact H9
    ipureintro; sl_unfold_run_names; rw [read_store _ _ zz]; simp only [readAt_unread2, View.readCov_cons_toLoadRect]
  isplitl [H10]
  · iexists _; isplitr; swap; · iexact H10
    ipureintro; sl_unfold_run_names; rw [read_store _ _ zz]; simp only [readAt_unread2, View.readCov_cons_toLoadRect]
  isplitl [H11]
  · iexists _; isplitr; swap; · iexact H11
    ipureintro; sl_unfold_run_names; rw [read_store _ _ zz]; simp only [readAt_unread2, View.readCov_cons_toLoadRect]
  isplitl [H12]
  · iexists _; isplitr; swap; · iexact H12
    ipureintro; sl_unfold_run_names; rw [read_store _ _ zz]; simp only [readAt_unread2, View.readCov_cons_toLoadRect]
  isplitl [H13]
  · iexists _; isplitr; swap; · iexact H13
    ipureintro; sl_unfold_run_names; rw [read_store _ _ zz]; simp only [readAt_unread2, View.readCov_cons_toLoadRect]
  isplitl [H14]
  · iexists _; isplitr; swap; · iexact H14
    ipureintro; sl_unfold_run_names; rw [read_store _ _ zz]; simp only [readAt_unread2, View.readCov_cons_toLoadRect]; unfold dxrStep; exact (congrArg₂ (k0_pay1 _) (readCov_stkN _ _ _ _) (readCov_stk _ _ _ _))
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Front

end
-- ==== Proof.KbRunB.lean ====
/- The front call's body at a point that is neither the first nor the last: what it leaves in every buffer. -/
module

public import proofs.«01_k».proof.Proof.KbBase

@[expose] public section

set_option maxRecDepth 16384

noncomputable section

namespace Cert.Kernel.Front

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point that is neither the first nor the last, from what every buffer holds to what every buffer is left with. -/
theorem run_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S2048x2048 .f32) (harg5 : arg5.IsWhole) (arg6 : Memref sig .tc .vmem S1x256 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x2048 .i8) (harg9 : arg9.IsWhole) (arg10 : Memref sig .tc .vmem S1x256 .f32) (harg10 : arg10.IsWhole) (arg11 : Memref sig .tc .vmem S256x2048 .i8) (harg11 : arg11.IsWhole) (arg12 : Memref sig .tc .vmem S1x256 .f32) (harg12 : arg12.IsWhole) (arg13 : Memref sig .tc .vmem S256x2048 .bf16) (harg13 : arg13.IsWhole) (arg14 : Memref sig .tc .vmem S256x2048 .f32) (harg14 : arg14.IsWhole) (arg15 : Memref sig .tc .vmem S512x2048 .bf16) (harg15 : arg15.IsWhole) (arg16 : Memref sig .tc .vmem S512x2048 .bf16) (harg16 : arg16.IsWhole) (arg17 : Memref sig .tc .vmem S512x256 .bf16) (harg17 : arg17.IsWhole) (arg18 : Memref sig .tc .vmem S512x2048 .bf16) (harg18 : arg18.IsWhole) (hc0 : ¬cond0_0 i) (hc1 : ¬cond0_1 i)
    (x : Vec F S256x2048 .bf16) (w : Vec F S256x2048 .bf16) (w2 : Vec F S256x2048 .bf16) (r : Vec F S2048x2048 .bf16) (g : Vec F S2048x2048 .f32) (l : Vec F S1x256 .f32) (xc : Vec F S256x2048 .i8) (xs : Vec F S1x256 .f32) (xcb : Vec F S256x2048 .bf16) (dxr : Vec F S256x2048 .f32) (E : Set ℕ) (K : PUnit → sProp 𝕄) :
    iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare g ∗ owns (c : Thread nD τ) arg6 fullShare l ∗ owns (c : Thread nD τ) arg7 fullShare xc ∗ owns (c : Thread nD τ) arg8 fullShare xs ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xcb ∗ owns (c : Thread nD τ) arg14 fullShare dxr ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare (gStep x w w2 r xs xcb g) ∗ owns (c : Thread nD τ) arg6 fullShare (lossStep x w w2 r xs xcb l) ∗ owns (c : Thread nD τ) arg7 fullShare xc ∗ owns (c : Thread nD τ) arg8 fullShare xs ∗ owns (c : Thread nD τ) arg9 fullShare (k0_pay19 w r) ∗ owns (c : Thread nD τ) arg10 fullShare (k0_pay22 (k0_pay21 w r)) ∗ owns (c : Thread nD τ) arg11 fullShare (k0_pay33 w2 r) ∗ owns (c : Thread nD τ) arg12 fullShare (k0_pay35 w2 r) ∗ owns (c : Thread nD τ) arg13 fullShare xcb ∗ owns (c : Thread nD τ) arg14 fullShare (dxrStep x w w2 r xs xcb dxr) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; sl_unfold_run_names; rw [read_store _ _ zz]; simp only [readAt_unread2, View.readCov_cons_toLoadRect]; unfold gStep; exact (congrArg₂ (k0_pay2 _) (readCov_stk _ _ _ _) (readCov_stk _ _ _ _))
  isplitl [H6]
  · iexists _; isplitr; swap; · iexact H6
    ipureintro; sl_unfold_run_names; rw [read_store _ _ zz]; simp only [readAt_unread2, View.readCov_cons_toLoadRect]; rfl
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; sl_unfold_run_names; rw [read_store _ _ zz]; simp only [readAt_unread2, View.readCov_cons_toLoadRect]
  isplitl [H10]
  · iexists _; isplitr; swap; · iexact H10
    ipureintro; sl_unfold_run_names; rw [read_store _ _ zz]; simp only [readAt_unread2, View.readCov_cons_toLoadRect]
  isplitl [H11]
  · iexists _; isplitr; swap; · iexact H11
    ipureintro; sl_unfold_run_names; rw [read_store _ _ zz]; simp only [readAt_unread2, View.readCov_cons_toLoadRect]
  isplitl [H12]
  · iexists _; isplitr; swap; · iexact H12
    ipureintro; sl_unfold_run_names; rw [read_store _ _ zz]; simp only [readAt_unread2, View.readCov_cons_toLoadRect]
  isplitl [H13]
  · iexists _; isplitr; swap; · iexact H13
    ipureintro; exact harg13.read_unread _
  isplitl [H14]
  · iexists _; isplitr; swap; · iexact H14
    ipureintro; sl_unfold_run_names; rw [read_store _ _ zz]; simp only [readAt_unread2, View.readCov_cons_toLoadRect]; unfold dxrStep; exact (congrArg₂ (k0_pay1 _) (readCov_stkN _ _ _ _) (readCov_stk _ _ _ _))
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Front

end
-- ==== Proof.KbRunC.lean ====
/- The front call's body at a point that is the last: what it leaves in every buffer. -/
module

public import proofs.«01_k».proof.Proof.KbBase

@[expose] public section

set_option maxRecDepth 16384

noncomputable section

namespace Cert.Kernel.Front

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point that is the last, from what every buffer holds to what every buffer is left with. -/
theorem run_C (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S2048x2048 .f32) (harg5 : arg5.IsWhole) (arg6 : Memref sig .tc .vmem S1x256 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x2048 .i8) (harg9 : arg9.IsWhole) (arg10 : Memref sig .tc .vmem S1x256 .f32) (harg10 : arg10.IsWhole) (arg11 : Memref sig .tc .vmem S256x2048 .i8) (harg11 : arg11.IsWhole) (arg12 : Memref sig .tc .vmem S1x256 .f32) (harg12 : arg12.IsWhole) (arg13 : Memref sig .tc .vmem S256x2048 .bf16) (harg13 : arg13.IsWhole) (arg14 : Memref sig .tc .vmem S256x2048 .f32) (harg14 : arg14.IsWhole) (arg15 : Memref sig .tc .vmem S512x2048 .bf16) (harg15 : arg15.IsWhole) (arg16 : Memref sig .tc .vmem S512x2048 .bf16) (harg16 : arg16.IsWhole) (arg17 : Memref sig .tc .vmem S512x256 .bf16) (harg17 : arg17.IsWhole) (arg18 : Memref sig .tc .vmem S512x2048 .bf16) (harg18 : arg18.IsWhole) (hc0 : ¬cond0_0 i) (hc1 : cond0_1 i)
    (x : Vec F S256x2048 .bf16) (w : Vec F S256x2048 .bf16) (w2 : Vec F S256x2048 .bf16) (r : Vec F S2048x2048 .bf16) (g : Vec F S2048x2048 .f32) (l : Vec F S1x256 .f32) (xc : Vec F S256x2048 .i8) (xs : Vec F S1x256 .f32) (xcb : Vec F S256x2048 .bf16) (dxr : Vec F S256x2048 .f32) (E : Set ℕ) (K : PUnit → sProp 𝕄) :
    iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare g ∗ owns (c : Thread nD τ) arg6 fullShare l ∗ owns (c : Thread nD τ) arg7 fullShare xc ∗ owns (c : Thread nD τ) arg8 fullShare xs ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xcb ∗ owns (c : Thread nD τ) arg14 fullShare dxr ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare (k0_pay3 (gStep x w w2 r xs xcb g) x (dxrStep x w w2 r xs xcb dxr)) ∗ owns (c : Thread nD τ) arg6 fullShare (lossStep x w w2 r xs xcb l) ∗ owns (c : Thread nD τ) arg7 fullShare xc ∗ owns (c : Thread nD τ) arg8 fullShare xs ∗ owns (c : Thread nD τ) arg9 fullShare (k0_pay19 w r) ∗ owns (c : Thread nD τ) arg10 fullShare (k0_pay22 (k0_pay21 w r)) ∗ owns (c : Thread nD τ) arg11 fullShare (k0_pay33 w2 r) ∗ owns (c : Thread nD τ) arg12 fullShare (k0_pay35 w2 r) ∗ owns (c : Thread nD τ) arg13 fullShare xcb ∗ owns (c : Thread nD τ) arg14 fullShare (dxrStep x w w2 r xs xcb dxr) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; sl_unfold_run_names; rw [read_store _ _ zz]; simp only [readAt_unread2, View.readCov_cons_toLoadRect]; unfold gStep dxrStep; exact (congrArg₂ (fun u v => k0_pay3 u _ v) (congrArg₂ (k0_pay2 _) (readCov_stk _ _ _ _) (readCov_stk _ _ _ _)) (congrArg₂ (k0_pay1 _) (readCov_stkN _ _ _ _) (readCov_stk _ _ _ _)))
  isplitl [H6]
  · iexists _; isplitr; swap; · iexact H6
    ipureintro; sl_unfold_run_names; rw [read_store _ _ zz]; simp only [readAt_unread2, View.readCov_cons_toLoadRect]; rfl
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; sl_unfold_run_names; rw [read_store _ _ zz]; simp only [readAt_unread2, View.readCov_cons_toLoadRect]
  isplitl [H10]
  · iexists _; isplitr; swap; · iexact H10
    ipureintro; sl_unfold_run_names; rw [read_store _ _ zz]; simp only [readAt_unread2, View.readCov_cons_toLoadRect]
  isplitl [H11]
  · iexists _; isplitr; swap; · iexact H11
    ipureintro; sl_unfold_run_names; rw [read_store _ _ zz]; simp only [readAt_unread2, View.readCov_cons_toLoadRect]
  isplitl [H12]
  · iexists _; isplitr; swap; · iexact H12
    ipureintro; sl_unfold_run_names; rw [read_store _ _ zz]; simp only [readAt_unread2, View.readCov_cons_toLoadRect]
  isplitl [H13]
  · iexists _; isplitr; swap; · iexact H13
    ipureintro; exact harg13.read_unread _
  isplitl [H14]
  · iexists _; isplitr; swap; · iexact H14
    ipureintro; sl_unfold_run_names; rw [read_store _ _ zz]; simp only [readAt_unread2, View.readCov_cons_toLoadRect]; unfold dxrStep; exact (congrArg₂ (k0_pay1 _) (readCov_stkN _ _ _ _) (readCov_stk _ _ _ _))
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Front

end
-- ==== Proof.KbFrame.lean ====
/- The front call: what every grid point leaves, the body at every point, and the run of the whole call. -/
module

public import proofs.«01_k».proof.Proof.KbRunA
public import proofs.«01_k».proof.Proof.KbRunB
public import proofs.«01_k».proof.Proof.KbRunC
public import Idealize.ShloMosaic.Lib.Claim

@[expose] public section

set_option maxRecDepth 16384

noncomputable section

namespace Cert.Kernel.Front

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves in the buffers that live on to the next point: the accumulator `g` (before the last
    point's final product is added), the loss row, the codes and scales of `x` and the accumulator `dxr`. -/
structure St (F : FTy → Type) [FloatOps F] where
  g : Vec F S2048x2048 .f32
  l : Vec F S1x256 .f32
  xc : Vec F S256x2048 .i8
  xs : Vec F S1x256 .f32
  xcb : Vec F S256x2048 .bf16
  dxr : Vec F S256x2048 .f32

abbrev bx (c : Dev nD) (t : Fin cfg0.N) : Vec F S256x2048 .bf16 := iblk m c 0 t
abbrev bw (c : Dev nD) (t : Fin cfg0.N) : Vec F S256x2048 .bf16 := iblk m c 1 t
abbrev bw2 (c : Dev nD) (t : Fin cfg0.N) : Vec F S256x2048 .bf16 := iblk m c 2 t
abbrev br (c : Dev nD) (t : Fin cfg0.N) : Vec F S2048x2048 .bf16 := iblk m c 3 t

/-- What the point leaves, point by point. -/
def st (c : Dev nD) : (n : ℕ) → n < cfg0.N → St F
  | 0, h => ⟨gStep (bx m c ⟨0, h⟩) (bw m c ⟨0, h⟩) (bw2 m c ⟨0, h⟩) (br m c ⟨0, h⟩) (k0_pay9 (bx m c ⟨0, h⟩) (br m c ⟨0, h⟩)) (k0_pay8 (bx m c ⟨0, h⟩) (br m c ⟨0, h⟩)) k0_pay13,
      lossStep (bx m c ⟨0, h⟩) (bw m c ⟨0, h⟩) (bw2 m c ⟨0, h⟩) (br m c ⟨0, h⟩) (k0_pay9 (bx m c ⟨0, h⟩) (br m c ⟨0, h⟩)) (k0_pay8 (bx m c ⟨0, h⟩) (br m c ⟨0, h⟩)) k0_pay10,
      k0_pay7 (bx m c ⟨0, h⟩) (br m c ⟨0, h⟩), k0_pay9 (bx m c ⟨0, h⟩) (br m c ⟨0, h⟩), k0_pay8 (bx m c ⟨0, h⟩) (br m c ⟨0, h⟩),
      dxrStep (bx m c ⟨0, h⟩) (bw m c ⟨0, h⟩) (bw2 m c ⟨0, h⟩) (br m c ⟨0, h⟩) (k0_pay9 (bx m c ⟨0, h⟩) (br m c ⟨0, h⟩)) (k0_pay8 (bx m c ⟨0, h⟩) (br m c ⟨0, h⟩)) (k0_pay12 k0_pay11)⟩
  | n + 1, h =>
    let s := st c n (Nat.lt_of_succ_lt h)
    ⟨gStep (bx m c ⟨n + 1, h⟩) (bw m c ⟨n + 1, h⟩) (bw2 m c ⟨n + 1, h⟩) (br m c ⟨n + 1, h⟩) s.xs s.xcb s.g,
      lossStep (bx m c ⟨n + 1, h⟩) (bw m c ⟨n + 1, h⟩) (bw2 m c ⟨n + 1, h⟩) (br m c ⟨n + 1, h⟩) s.xs s.xcb s.l,
      s.xc, s.xs, s.xcb,
      dxrStep (bx m c ⟨n + 1, h⟩) (bw m c ⟨n + 1, h⟩) (bw2 m c ⟨n + 1, h⟩) (br m c ⟨n + 1, h⟩) s.xs s.xcb s.dxr⟩

theorem pred_lt (t : Fin cfg0.N) : t.val - 1 < cfg0.N := Nat.lt_of_le_of_lt (Nat.sub_le _ _) t.isLt

/-- The state before a point that is not the first. -/
abbrev pst (c : Dev nD) (t : Fin cfg0.N) : St F := st m c (t.val - 1) (pred_lt t)

theorem st_first (c : Dev nD) (t : Fin cfg0.N) (h : t.val = 0) : st m c t.val t.isLt =
    ⟨gStep (bx m c t) (bw m c t) (bw2 m c t) (br m c t) (k0_pay9 (bx m c t) (br m c t)) (k0_pay8 (bx m c t) (br m c t)) k0_pay13,
      lossStep (bx m c t) (bw m c t) (bw2 m c t) (br m c t) (k0_pay9 (bx m c t) (br m c t)) (k0_pay8 (bx m c t) (br m c t)) k0_pay10,
      k0_pay7 (bx m c t) (br m c t), k0_pay9 (bx m c t) (br m c t), k0_pay8 (bx m c t) (br m c t),
      dxrStep (bx m c t) (bw m c t) (bw2 m c t) (br m c t) (k0_pay9 (bx m c t) (br m c t)) (k0_pay8 (bx m c t) (br m c t)) (k0_pay12 k0_pay11)⟩ := by
  obtain ⟨n, hn⟩ := t
  cases n with
  | zero => rfl
  | succ n => exact absurd h (Nat.succ_ne_zero n)

theorem st_next (c : Dev nD) (t : Fin cfg0.N) (h : t.val ≠ 0) : st m c t.val t.isLt =
    ⟨gStep (bx m c t) (bw m c t) (bw2 m c t) (br m c t) (pst m c t).xs (pst m c t).xcb (pst m c t).g,
      lossStep (bx m c t) (bw m c t) (bw2 m c t) (br m c t) (pst m c t).xs (pst m c t).xcb (pst m c t).l,
      (pst m c t).xc, (pst m c t).xs, (pst m c t).xcb,
      dxrStep (bx m c t) (bw m c t) (bw2 m c t) (br m c t) (pst m c t).xs (pst m c t).xcb (pst m c t).dxr⟩ := by
  obtain ⟨n, hn⟩ := t
  cases n with
  | zero => exact absurd rfl h
  | succ n => rfl

/-- What the point leaves in the first result's buffer: the last point adds the final product. -/
def gOut (c : Dev nD) (t : Fin cfg0.N) : Vec F S2048x2048 .f32 :=
  if t.val = 21 then k0_pay3 (st m c t.val t.isLt).g (bx m c t) (st m c t.val t.isLt).dxr else (st m c t.val t.isLt).g

/-- The invariant before position `n`: the codes of `x` and the accumulator `dxr` are carried in scratch. -/
def PhiS (c : Dev nD) : (n : ℕ) → n ≤ cfg0.N → sProp 𝕄
  | 0, _ => Pipeline.ΦA spec0 c
  | n + 1, hn => iprop(iprop(owns (c : Thread nD τ) scM0_0 fullShare ((st m c n hn).xcb) ∗ owns (c : Thread nD τ) scM0_1 fullShare ((st m c n hn).dxr) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) scM0_0 fullShare ((st m c n hn).xcb) ∗ owns (c : Thread nD τ) scM0_1 fullShare ((st m c n hn).dxr) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) : PhiS m c n h = iprop(iprop(owns (c : Thread nD τ) scM0_0 fullShare ((st m c (n - 1) (by omega)).xcb) ∗ owns (c : Thread nD τ) scM0_1 fullShare ((st m c (n - 1) (by omega)).dxr) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gOut m c t
    | ⟨5, _⟩ => (st m c t.val t.isLt).l
    | ⟨6, _⟩ => (st m c t.val t.isLt).xc
    | ⟨7, _⟩ => (st m c t.val t.isLt).xs
    | ⟨8, _⟩ => k0_pay19 (bw m c t) (br m c t)
    | ⟨9, _⟩ => k0_pay22 (k0_pay21 (bw m c t) (br m c t))
    | ⟨10, _⟩ => k0_pay33 (bw2 m c t) (br m c t)
    | ⟨11, _⟩ => k0_pay35 (bw2 m c t) (br m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = gOut m c t := by dsimp only [dats]
theorem after0_5 (c : Dev nD) (t : Fin cfg0.N) : (dats m 0 c).after 5 t = (st m c t.val t.isLt).l := by dsimp only [dats]
theorem after0_6 (c : Dev nD) (t : Fin cfg0.N) : (dats m 0 c).after 6 t = (st m c t.val t.isLt).xc := by dsimp only [dats]
theorem after0_7 (c : Dev nD) (t : Fin cfg0.N) : (dats m 0 c).after 7 t = (st m c t.val t.isLt).xs := by dsimp only [dats]
theorem after0_8 (c : Dev nD) (t : Fin cfg0.N) : (dats m 0 c).after 8 t = k0_pay19 (bw m c t) (br m c t) := by dsimp only [dats]
theorem after0_9 (c : Dev nD) (t : Fin cfg0.N) : (dats m 0 c).after 9 t = k0_pay22 (k0_pay21 (bw m c t) (br m c t)) := by dsimp only [dats]
theorem after0_10 (c : Dev nD) (t : Fin cfg0.N) : (dats m 0 c).after 10 t = k0_pay33 (bw2 m c t) (br m c t) := by dsimp only [dats]
theorem after0_11 (c : Dev nD) (t : Fin cfg0.N) : (dats m 0 c).after 11 t = k0_pay35 (bw2 m c t) (br m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point that is not the first, output 4's buffer holds what the point before left. -/
theorem before0_4 (c : Dev nD) (t : Fin cfg0.N) (h : t.val ≠ 0) (d) : (dats m 0 c).before 4 t d = (pst m c t).g := by
  have hN : t.val < 22 := lt_of_lt_of_eq t.isLt (show cfg0.N = 22 from N_0)
  rw [Dat.before_out_kept _ 4 rfl t (by omega) (Bool.eq_false_iff.mpr fun h => by have := (flush0_4 _).mp h; dsimp only at this; omega)
    (fun _ => rfl) (fun _ _ => rfl), after0_4]
  exact if_neg (by dsimp only; omega)
/-- At a point that is not the first, output 5's buffer holds what the point before left. -/
theorem before0_5 (c : Dev nD) (t : Fin cfg0.N) (h : t.val ≠ 0) (d) : (dats m 0 c).before 5 t d = (pst m c t).l := by
  have hN : t.val < 22 := lt_of_lt_of_eq t.isLt (show cfg0.N = 22 from N_0)
  rw [Dat.before_out_kept _ 5 rfl t (by omega) (Bool.eq_false_iff.mpr fun h => by have := (flush0_5 _).mp h; dsimp only at this; omega)
    (fun _ => rfl) (fun _ _ => rfl), after0_5]
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h _ _
  rw [after0_6, after0_6, st_next m c t h]
/-- At a point that is not the first, output 6's buffer still holds what the first point stored. -/
theorem before0_6 (c : Dev nD) (t : Fin cfg0.N) (h : t.val ≠ 0) (d) : (dats m 0 c).before 6 t d = (pst m c t).xc := by
  rw [Dat.before_out_traj _ 6 rfl (fun _ _ => rfl) (hcarry0_6 m c) t.val t rfl d,
    if_neg (by rw [notFresh0_6 t h]; exact Bool.false_ne_true), after0_6]
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t h _ _
  rw [after0_7, after0_7, st_next m c t h]
/-- At a point that is not the first, output 7's buffer still holds what the first point stored. -/
theorem before0_7 (c : Dev nD) (t : Fin cfg0.N) (h : t.val ≠ 0) (d) : (dats m 0 c).before 7 t d = (pst m c t).xs := by
  rw [Dat.before_out_traj _ 7 rfl (fun _ _ => rfl) (hcarry0_7 m c) t.val t rfl d,
    if_neg (by rw [notFresh0_7 t h]; exact Bool.false_ne_true), after0_7]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t h], after0_6]
  rw [show (dats m 0 c).leavesExact 7 t = owns (c : Thread nD τ) (ms0_7 t) fullShare ((dats m 0 c).after 7 t) from by
    unfold Dat.leavesExact; rw [liveAt0_7 t h], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [PhiS_castSucc m c t, PhiS_zero m c _ _ h, PhiA0_eq]
  unfold gOut
  rw [if_neg (show ¬t.val = 21 by omega), st_first m c t h]
  dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) _ _ _ _ _ _ _ _ _ _ _ _ _ _ _ _ _ _ _ _ _ _ _ _ _ _ _ _ _ _ _ _ _ _ _ _ ((hcond0_0 t).mpr (by omega)) (fun h => by have := (hcond0_1 t).mp h; omega) (bx m c t) (bw m c t) (bw2 m c t) (br m c t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body at a point between. -/
theorem sound_B (c : Dev nD) (t : Fin cfg0.N) (h : t.val ≠ 0) (h1 : t.val ≠ 21) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4 m c t h, before0_5 m c t h, before0_6 m c t h, before0_7 m c t h]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t h) (noFlush0_6 t h1)]
  rw [Dat.leavesExact_idle (dats m 0 c) 7 t (idleAt0_7 t h) (noFlush0_7 t h1)]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  simp only [before0_6 m c t h, before0_7 m c t h]
  rw [PhiS_castSucc m c t, PhiS_pos m c _ _ h]
  unfold gOut
  rw [if_neg h1, st_next m c t h]
  dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ _ _ _ _ _ _ _ _ _ _ (fun h => by have := (hcond0_0 t).mp h; omega) (fun h => by have := (hcond0_1 t).mp h; omega) (bx m c t) (bw m c t) (bw2 m c t) (br m c t) (pst m c t).g (pst m c t).l (pst m c t).xc (pst m c t).xs (pst m c t).xcb (pst m c t).dxr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  isplitl [H8]; · iexact H8
  isplitl [H9]; · iexact H9
  isplitl [H10]; · iexact H10
  iexact H11

set_option maxHeartbeats 4000000 in
/-- The body at the last point. -/
theorem sound_C (c : Dev nD) (t : Fin cfg0.N) (h : t.val ≠ 0) (h1 : t.val = 21) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4 m c t h, before0_5 m c t h, before0_6 m c t h, before0_7 m c t h]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [idleAt0_6 t h, flushLast0_6 t h1], after0_6]
  rw [show (dats m 0 c).leavesExact 7 t = owns (c : Thread nD τ) (ms0_7 t) fullShare ((dats m 0 c).after 7 t) from by
    unfold Dat.leavesExact; rw [idleAt0_7 t h, flushLast0_7 t h1], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [PhiS_castSucc m c t, PhiS_pos m c _ _ h]
  unfold gOut
  rw [if_pos h1, st_next m c t h]
  dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ _ _ _ _ _ _ _ _ _ _ (fun h => by have := (hcond0_0 t).mp h; omega) ((hcond0_1 t).mpr (by omega)) (bx m c t) (bw m c t) (bw2 m c t) (br m c t) (pst m c t).g (pst m c t).l (pst m c t).xc (pst m c t).xs (pst m c t).xcb (pst m c t).dxr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  · by_cases h1 : t.val = 21
    · exact sound_C m c t h h1
    · exact sound_B m c t h h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 22 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer at what the host lines after the call leave in it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The call runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Front

end
-- ==== Proof.IdBase.lean ====
/- The front call: where its body branches, where its outputs are left alone, its staging and scratch
   buffers, and the values one grid point leaves, written over the values the body computes. -/
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.Value

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's last `scf.if`: the point is the last one. -/
def k0_cond2 (i : grid0.Coords) : BitVec 1 :=
  Scalar.cmpi .ne (Scalar.extui (Scalar.cmpi .eq (BitVec.ofNat 32 (i 0).val) 21#32) : BitVec 32) 0#32

/-- The condition of the body's `scf.if` 0 (`k0_h1`), from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, k0_cond1, e0]
    word_cmp
   : ∀ t : Fin grid0.N, cond0_0 (grid0.coords t) ↔ t.val % 22 = 0)

/-- The condition of the body's `scf.if` 1 (`k0_h2`), from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 22 = 21 :=
  (fun t => by
    have ht : t.val < 22 := Nat.lt_of_lt_of_eq t.isLt N_0
    have e0 : (grid0.coords t 0).val = t.val / 1 % 22 := Pipeline.Grid.coords_val t 0 (by decide) rfl
    simp only [cond0_1, k0_cond2, e0]
    word_cmp
   : ∀ t : Fin grid0.N, cond0_1 (grid0.coords t) ↔ t.val % 22 = 21)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
/-- Output 6 is stored at the first point only. -/
theorem liveAt0_6 : ∀ t : Fin cfg0.N, t.val = 0 → cfg0.idle 6 (grid0.coords t) = false := by decide +kernel
theorem idleAt0_6 : ∀ t : Fin cfg0.N, t.val ≠ 0 → cfg0.idle 6 (grid0.coords t) = true := by decide +kernel
theorem notFresh0_6 : ∀ t : Fin cfg0.N, t.val ≠ 0 → cfg0.fresh 6 t.val = false := by
  have h : ∀ t : Fin cfg0.N, cfg0.fresh 6 t.val = decide (t.val = 0) := fun t =>
    Pipeline.Cfg.fresh_tab cfg0 6 (fun n => match n with | 0 => true | n + 1 => (0x200000 : ℕ).testBit n) rfl (by decide +kernel) t.val (Nat.le_of_lt t.isLt) |>.trans (by revert t; decide +kernel)
  intro t ht; rw [h t]; simp [ht]
theorem noFlush0_6 : ∀ t : Fin cfg0.N, t.val ≠ 21 → (cfg0.win 6).flush t = false := by decide +kernel
theorem flushLast0_6 : ∀ t : Fin cfg0.N, t.val = 21 → (cfg0.win 6).flush t = true := by decide +kernel
/-- Output 7 is stored at the first point only. -/
theorem liveAt0_7 : ∀ t : Fin cfg0.N, t.val = 0 → cfg0.idle 7 (grid0.coords t) = false := by decide +kernel
theorem idleAt0_7 : ∀ t : Fin cfg0.N, t.val ≠ 0 → cfg0.idle 7 (grid0.coords t) = true := by decide +kernel
theorem notFresh0_7 : ∀ t : Fin cfg0.N, t.val ≠ 0 → cfg0.fresh 7 t.val = false := by
  have h : ∀ t : Fin cfg0.N, cfg0.fresh 7 t.val = decide (t.val = 0) := fun t =>
    Pipeline.Cfg.fresh_tab cfg0 7 (fun n => match n with | 0 => true | n + 1 => (0x200000 : ℕ).testBit n) rfl (by decide +kernel) t.val (Nat.le_of_lt t.isLt) |>.trans (by revert t; decide +kernel)
  intro t ht; rw [h t]; simp [ht]
theorem noFlush0_7 : ∀ t : Fin cfg0.N, t.val ≠ 21 → (cfg0.win 7).flush t = false := by decide +kernel
theorem flushLast0_7 : ∀ t : Fin cfg0.N, t.val = 21 → (cfg0.win 7).flush t = true := by decide +kernel
/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x2048 .bf16 := Memref.whole cc0_scratch0
abbrev scM0_1 : Memref sig .tc .vmem S256x2048 .f32 := Memref.whole cc0_scratch1
abbrev scM0_2 : Memref sig .tc .vmem S512x2048 .bf16 := Memref.whole cc0_scratch2
abbrev scM0_3 : Memref sig .tc .vmem S512x2048 .bf16 := Memref.whole cc0_scratch3
abbrev scM0_4 : Memref sig .tc .vmem S512x256 .bf16 := Memref.whole cc0_scratch4
abbrev scM0_5 : Memref sig .tc .vmem S512x2048 .bf16 := Memref.whole cc0_scratch5
/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## What one point computes, over what it reads -/

/-- Two 256-row halves, one under the other. -/
def stk (a b : Vec F S256x2048 .bf16) : Vec F S512x2048 .bf16 :=
  View.canon [⟨Rect.unit (s := S512x2048) ![256, 0] S256x2048.size inb_S512x2048_S256x2048_256_0, b⟩,
    ⟨Rect.unit (s := S512x2048) ![0, 0] S256x2048.size inb_S512x2048_S256x2048_0_0, a⟩]

/-- The same for halves of 256 columns. -/
def stkN (a b : Vec F S256x256 .bf16) : Vec F S512x256 .bf16 :=
  View.canon [⟨Rect.unit (s := S512x256) ![256, 0] S256x256.size inb_S512x256_S256x256_256_0, b⟩,
    ⟨Rect.unit (s := S512x256) ![0, 0] S256x256.size inb_S512x256_S256x256_0_0, a⟩]

section
variable (x w w2 : Vec F S256x2048 .bf16) (r : Vec F S2048x2048 .bf16) (xs : Vec F S1x256 .f32) (xcb : Vec F S256x2048 .bf16)

/-- The loss row after the first weight block, -/
def lossStep1 (acc : Vec F S1x256 .f32) : Vec F S1x256 .f32 :=
  k0_pay24 (k0_pay14 xs) w (k0_pay17 w r) (k0_pay20 w r) xcb x acc
/-- and after both. -/
def lossStep (acc : Vec F S1x256 .f32) : Vec F S1x256 .f32 :=
  k0_pay37 (k0_pay14 xs) w2 (k0_pay31 w2 r) (k0_pay34 w2 r) xcb x (lossStep1 x w r xs xcb acc)
/-- The accumulated gradient of the rotated input after the point. -/
def dxrStep (acc : Vec F S256x2048 .f32) : Vec F S256x2048 .f32 :=
  k0_pay1 acc
    (stkN (k0_pay26 (k0_pay14 xs) w (k0_pay17 w r) (k0_pay20 w r) xcb x) (k0_pay39 (k0_pay14 xs) w2 (k0_pay31 w2 r) (k0_pay34 w2 r) xcb x))
    (stk (k0_pay20 w r) (k0_pay34 w2 r))
/-- The accumulated gradient of the rotation after the point. -/
def gStep (acc : Vec F S2048x2048 .f32) : Vec F S2048x2048 .f32 :=
  k0_pay2 acc (stk (k0_pay15 w) (k0_pay29 w2))
    (stk (k0_pay28 (k0_pay27 (k0_pay14 xs) w (k0_pay17 w r) (k0_pay20 w r) xcb x xcb))
      (k0_pay40 (k0_pay14 xs) w2 (k0_pay31 w2 r) (k0_pay34 w2 r) xcb x xcb))
end

/-! ## Reading back what the body stored -/

section
variable {n k : ℕ} {e : EltTy} {sp : Space} {κ : Kind}

theorem zz : (![0, 0] : Fin 2 → ℕ) = fun _ => 0 := by funext a; fin_cases a <;> rfl

/-- A buffer whose last store covers it holds that store's payload. -/
theorem read_store {S : Shape} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon _ _ _ (fun y => ⟨_, List.mem_cons_self, View.mem_set_unit_zero h inb y⟩)).trans (View.canon_cons_unit_zero h inb w L)

/-- A load of a whole buffer reads its contents. -/
theorem readAt_unread {S : Shape} (arg : Memref sig κ sp S e) (harg : arg.IsWhole) {off : Fin S.rank → ℕ} (h : off = fun _ => 0)
    (inb : ∀ a, off a + S.size a ≤ S.size a) (x : S.Idx → Elt F e) :
    View.readAt (Elt F) arg.view (Rect.unit off S.size inb).toLoadRect (harg.unread x) = x :=
  (View.readAt_eq_ld _ _ _).trans ((congrArg (fun X => View.ld X _) (harg.read_unread x)).trans (View.ld_unit_zero h inb x))

/-- The same at a matrix buffer, the extents spelt out. -/
theorem readAt_unread2 (arg : Memref sig κ sp (⟨2, ![n, k]⟩ : Shape) e) (harg : arg.IsWhole)
    (inb : ∀ a, (![0, 0] : Fin 2 → ℕ) a + (![n, k] : Fin 2 → ℕ) a ≤ (![n, k] : Fin 2 → ℕ) a) (x : (⟨2, ![n, k]⟩ : Shape).Idx → Elt F e) :
    View.readAt (Elt F) arg.view (Rect.unit (s := (⟨2, ![n, k]⟩ : Shape)) ![0, 0] ![n, k] inb).toLoadRect (harg.unread x) = x :=
  readAt_unread arg harg zz inb x

theorem readCov_stk (v : View sig κ sp S512x2048 .bf16) (inb) (a b : Vec F S256x2048 .bf16) :
    v.readCov [(⟨Rect.unit (s := S512x2048) ![256, 0] S256x2048.size inb_S512x2048_S256x2048_256_0, b⟩ : View.Piece (Elt F) S512x2048 .bf16),
      ⟨Rect.unit (s := S512x2048) ![0, 0] S256x2048.size inb_S512x2048_S256x2048_0_0, a⟩]
      (Rect.unit (s := S512x2048) ![0, 0] S512x2048.size inb).toLoadRect = stk a b :=
  (View.readCov_eq_canon' _ _ _).trans (View.ld_unit_zero zz inb _)

theorem readCov_stkN (v : View sig κ sp S512x256 .bf16) (inb) (a b : Vec F S256x256 .bf16) :
    v.readCov [(⟨Rect.unit (s := S512x256) ![256, 0] S256x256.size inb_S512x256_S256x256_256_0, b⟩ : View.Piece (Elt F) S512x256 .bf16),
      ⟨Rect.unit (s := S512x256) ![0, 0] S256x256.size inb_S512x256_S256x256_0_0, a⟩]
      (Rect.unit (s := S512x256) ![0, 0] S512x256.size inb).toLoadRect = stkN a b :=
  (View.readCov_eq_canon' _ _ _).trans (View.ld_unit_zero zz inb _)
end

end Cert.KernelIdeal.Front

end
-- ==== Proof.IdRunA.lean ====
/- The front call's body at a point that is the first: what it leaves in every buffer. -/
module

public import proofs.«01_k».proof.Proof.IdBase

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point that is the first, from what every buffer holds to what every buffer is left with. -/
theorem run_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S2048x2048 .f32) (harg5 : arg5.IsWhole) (arg6 : Memref sig .tc .vmem S1x256 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x2048 .i8) (harg9 : arg9.IsWhole) (arg10 : Memref sig .tc .vmem S1x256 .f32) (harg10 : arg10.IsWhole) (arg11 : Memref sig .tc .vmem S256x2048 .i8) (harg11 : arg11.IsWhole) (arg12 : Memref sig .tc .vmem S1x256 .f32) (harg12 : arg12.IsWhole) (arg13 : Memref sig .tc .vmem S256x2048 .bf16) (harg13 : arg13.IsWhole) (arg14 : Memref sig .tc .vmem S256x2048 .f32) (harg14 : arg14.IsWhole) (arg15 : Memref sig .tc .vmem S512x2048 .bf16) (harg15 : arg15.IsWhole) (arg16 : Memref sig .tc .vmem S512x2048 .bf16) (harg16 : arg16.IsWhole) (arg17 : Memref sig .tc .vmem S512x256 .bf16) (harg17 : arg17.IsWhole) (arg18 : Memref sig .tc .vmem S512x2048 .bf16) (harg18 : arg18.IsWhole) (hc0 : cond0_0 i) (hc1 : ¬cond0_1 i)
    (x : Vec F S256x2048 .bf16) (w : Vec F S256x2048 .bf16) (w2 : Vec F S256x2048 .bf16) (r : Vec F S2048x2048 .bf16) (E : Set ℕ) (K : PUnit → sProp 𝕄) :
    iprop(owns (c : Thread nD τ) arg1 fullShare x ∗ owns (c : Thread nD τ) arg2 fullShare w ∗ owns (c : Thread nD τ) arg3 fullShare w2 ∗ owns (c : Thread nD τ) arg4 fullShare r ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare (gStep x w w2 r (k0_pay9 x r) (k0_pay8 x r) k0_pay13) ∗ owns (c : Thread nD τ) arg6 fullShare (lossStep x w w2 r (k0_pay9 x r) (k0_pay8 x r) k0_pay10) ∗ owns (c : Thread nD τ) arg7 fullShare (k0_pay7 x r) ∗ owns (c : Thread nD τ) arg8 fullShare (k0_pay9 x r) ∗ owns (c : Thread nD τ) arg9 fullShare (k0_pay19 w r) ∗ owns (c : Thread nD τ) arg10 fullShare (k0_pay22 (k0_pay21 w r)) ∗ owns (c : Thread nD τ) arg11 fullShare (k0_pay33 w2 r) ∗ owns (c : Thread nD τ) arg12 fullShare (k0_pay35 w2 r) ∗ owns (c : Thread nD τ) arg13 fullShare (k0_pay8 x r) ∗ owns (c : Thread nD τ) arg14 fullShare (dxrStep x w w2 r (k0_pay9 x r) (k0_pay8 x r) (k0_pay12 k0_pay11)) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; sl_unfold_run_names; rw [read_store _ _ zz]; simp only [readAt_unread2, View.readCov_cons_toLoadRect]; unfold gStep; exact (congrArg₂ (k0_pay2 _) (readCov_stk _ _ _ _) (readCov_stk _ _ _ _))
  isplitl [H6]
  · iexists _; isplitr; swap; · iexact H6
    ipureintro; sl_unfold_run_names; rw [read_store _ _ zz]; simp only [readAt_unread2, View.readCov_cons_toLoadRect]; rfl
  isplitl [H7]
  · iexists _; isplitr; swap; · iexact H7
    ipureintro; sl_unfold_run_names; rw [read_store _ _ zz]; simp only [readAt_unread2, View.readCov_cons_toLoadRect]
  isplitl [H8]
  · iexists _; isplitr; swap; · iexact H8
    ipureintro; sl_unfold_run_names; rw [read_store _ _ zz]; simp only [readAt_unread2, View.readCov_cons_toLoadRect]
  isplitl [H9]
  · iexists _; isplitr; swap; · iexact H9
    ipureintro; sl_unfold_run_names; rw [read_store _ _ zz]; simp only [readAt_unread2, View.readCov_cons_toLoadRect]
  isplitl [H10]
  · iexists _; isplitr; swap; · iexact H10
    ipureintro; sl_unfold_run_names; rw [read_store _ _ zz]; simp only [readAt_unread2, View.readCov_cons_toLoadRect]
  isplitl [H11]
  · iexists _; isplitr; swap; · iexact H11
    ipureintro; sl_unfold_run_names; rw [read_store _ _ zz]; simp only [readAt_unread2, View.readCov_cons_toLoadRect]
  isplitl [H12]
  · iexists _; isplitr; swap; · iexact H12
    ipureintro; sl_unfold_run_names; rw [read_store _ _ zz]; simp only [readAt_unread2, View.readCov_cons_toLoadRect]
  isplitl [H13]
  · iexists _; isplitr; swap; · iexact H13
    ipureintro; sl_unfold_run_names; rw [read_store _ _ zz]; simp only [readAt_unread2, View.readCov_cons_toLoadRect]
  isplitl [H14]
  · iexists _; isplitr; swap; · iexact H14
    ipureintro; sl_unfold_run_names; rw [read_store _ _ zz]; simp only [readAt_unread2, View.readCov_cons_toLoadRect]; unfold dxrStep; exact (congrArg₂ (k0_pay1 _) (readCov_stkN _ _ _ _) (readCov_stk _ _ _ _))
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.KernelIdeal.Front

end
-- ==== Proof.IdRunB.lean ====
/- The front call's body at a point that is neither the first nor the last: what it leaves in every buffer. -/
module

public import proofs.«01_k».proof.Proof.IdBase

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point that is neither the first nor the last, from what every buffer holds to what every buffer is left with. -/
theorem run_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S2048x2048 .f32) (harg5 : arg5.IsWhole) (arg6 : Memref sig .tc .vmem S1x256 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x2048 .i8) (harg9 : arg9.IsWhole) (arg10 : Memref sig .tc .vmem S1x256 .f32) (harg10 : arg10.IsWhole) (arg11 : Memref sig .tc .vmem S256x2048 .i8) (harg11 : arg11.IsWhole) (arg12 : Memref sig .tc .vmem S1x256 .f32) (harg12 : arg12.IsWhole) (arg13 : Memref sig .tc .vmem S256x2048 .bf16) (harg13 : arg13.IsWhole) (arg14 : Memref sig .tc .vmem S256x2048 .f32) (harg14 : arg14.IsWhole) (arg15 : Memref sig .tc .vmem S512x2048 .bf16) (harg15 : arg15.IsWhole) (arg16 : Memref sig .tc .vmem S512x2048 .bf16) (harg16 : arg16.IsWhole) (arg17 : Memref sig .tc .vmem S512x256 .bf16) (harg17 : arg17.IsWhole) (arg18 : Memref sig .tc .vmem S512x2048 .bf16) (harg18 : arg18.IsWhole) (hc0 : ¬cond0_0 i) (hc1 : ¬cond0_1 i)
    (x : Vec F S256x2048 .bf16) (w : Vec F S256x2048 .bf16) (w2 : Vec F S256x2048 .bf16) (r : Vec F S2048x2048 .bf16) (g : Vec F S2048x2048 .f32) (l : Vec F S1x256 .f32) (xc : Vec F S256x2048 .i8) (xs : Vec F S1x256 .f32) (xcb : Vec F S256x2048 .bf16) (dxr : Vec F S256x2048 .f32) (E : Set ℕ) (K : PUnit → sProp 𝕄) :
    iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare g ∗ owns (c : Thread nD τ) arg6 fullShare l ∗ owns (c : Thread nD τ) arg7 fullShare xc ∗ owns (c : Thread nD τ) arg8 fullShare xs ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xcb ∗ owns (c : Thread nD τ) arg14 fullShare dxr ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare (gStep x w w2 r xs xcb g) ∗ owns (c : Thread nD τ) arg6 fullShare (lossStep x w w2 r xs xcb l) ∗ owns (c : Thread nD τ) arg7 fullShare xc ∗ owns (c : Thread nD τ) arg8 fullShare xs ∗ owns (c : Thread nD τ) arg9 fullShare (k0_pay19 w r) ∗ owns (c : Thread nD τ) arg10 fullShare (k0_pay22 (k0_pay21 w r)) ∗ owns (c : Thread nD τ) arg11 fullShare (k0_pay33 w2 r) ∗ owns (c : Thread nD τ) arg12 fullShare (k0_pay35 w2 r) ∗ owns (c : Thread nD τ) arg13 fullShare xcb ∗ owns (c : Thread nD τ) arg14 fullShare (dxrStep x w w2 r xs xcb dxr) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; sl_unfold_run_names; rw [read_store _ _ zz]; simp only [readAt_unread2, View.readCov_cons_toLoadRect]; unfold gStep; exact (congrArg₂ (k0_pay2 _) (readCov_stk _ _ _ _) (readCov_stk _ _ _ _))
  isplitl [H6]
  · iexists _; isplitr; swap; · iexact H6
    ipureintro; sl_unfold_run_names; rw [read_store _ _ zz]; simp only [readAt_unread2, View.readCov_cons_toLoadRect]; rfl
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; sl_unfold_run_names; rw [read_store _ _ zz]; simp only [readAt_unread2, View.readCov_cons_toLoadRect]
  isplitl [H10]
  · iexists _; isplitr; swap; · iexact H10
    ipureintro; sl_unfold_run_names; rw [read_store _ _ zz]; simp only [readAt_unread2, View.readCov_cons_toLoadRect]
  isplitl [H11]
  · iexists _; isplitr; swap; · iexact H11
    ipureintro; sl_unfold_run_names; rw [read_store _ _ zz]; simp only [readAt_unread2, View.readCov_cons_toLoadRect]
  isplitl [H12]
  · iexists _; isplitr; swap; · iexact H12
    ipureintro; sl_unfold_run_names; rw [read_store _ _ zz]; simp only [readAt_unread2, View.readCov_cons_toLoadRect]
  isplitl [H13]
  · iexists _; isplitr; swap; · iexact H13
    ipureintro; exact harg13.read_unread _
  isplitl [H14]
  · iexists _; isplitr; swap; · iexact H14
    ipureintro; sl_unfold_run_names; rw [read_store _ _ zz]; simp only [readAt_unread2, View.readCov_cons_toLoadRect]; unfold dxrStep; exact (congrArg₂ (k0_pay1 _) (readCov_stkN _ _ _ _) (readCov_stk _ _ _ _))
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.KernelIdeal.Front

end
-- ==== Proof.IdRunC.lean ====
/- The front call's body at a point that is the last: what it leaves in every buffer. -/
module

public import proofs.«01_k».proof.Proof.IdBase

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point that is the last, from what every buffer holds to what every buffer is left with. -/
theorem run_C (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S2048x2048 .f32) (harg5 : arg5.IsWhole) (arg6 : Memref sig .tc .vmem S1x256 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x2048 .i8) (harg9 : arg9.IsWhole) (arg10 : Memref sig .tc .vmem S1x256 .f32) (harg10 : arg10.IsWhole) (arg11 : Memref sig .tc .vmem S256x2048 .i8) (harg11 : arg11.IsWhole) (arg12 : Memref sig .tc .vmem S1x256 .f32) (harg12 : arg12.IsWhole) (arg13 : Memref sig .tc .vmem S256x2048 .bf16) (harg13 : arg13.IsWhole) (arg14 : Memref sig .tc .vmem S256x2048 .f32) (harg14 : arg14.IsWhole) (arg15 : Memref sig .tc .vmem S512x2048 .bf16) (harg15 : arg15.IsWhole) (arg16 : Memref sig .tc .vmem S512x2048 .bf16) (harg16 : arg16.IsWhole) (arg17 : Memref sig .tc .vmem S512x256 .bf16) (harg17 : arg17.IsWhole) (arg18 : Memref sig .tc .vmem S512x2048 .bf16) (harg18 : arg18.IsWhole) (hc0 : ¬cond0_0 i) (hc1 : cond0_1 i)
    (x : Vec F S256x2048 .bf16) (w : Vec F S256x2048 .bf16) (w2 : Vec F S256x2048 .bf16) (r : Vec F S2048x2048 .bf16) (g : Vec F S2048x2048 .f32) (l : Vec F S1x256 .f32) (xc : Vec F S256x2048 .i8) (xs : Vec F S1x256 .f32) (xcb : Vec F S256x2048 .bf16) (dxr : Vec F S256x2048 .f32) (E : Set ℕ) (K : PUnit → sProp 𝕄) :
    iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare g ∗ owns (c : Thread nD τ) arg6 fullShare l ∗ owns (c : Thread nD τ) arg7 fullShare xc ∗ owns (c : Thread nD τ) arg8 fullShare xs ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xcb ∗ owns (c : Thread nD τ) arg14 fullShare dxr ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x ∗ owns (c : Thread nD τ) arg2 fullShare w ∗ owns (c : Thread nD τ) arg3 fullShare w2 ∗ owns (c : Thread nD τ) arg4 fullShare r ∗ owns (c : Thread nD τ) arg5 fullShare (k0_pay3 (gStep x w w2 r xs xcb g) x (dxrStep x w w2 r xs xcb dxr)) ∗ owns (c : Thread nD τ) arg6 fullShare (lossStep x w w2 r xs xcb l) ∗ owns (c : Thread nD τ) arg7 fullShare xc ∗ owns (c : Thread nD τ) arg8 fullShare xs ∗ owns (c : Thread nD τ) arg9 fullShare (k0_pay19 w r) ∗ owns (c : Thread nD τ) arg10 fullShare (k0_pay22 (k0_pay21 w r)) ∗ owns (c : Thread nD τ) arg11 fullShare (k0_pay33 w2 r) ∗ owns (c : Thread nD τ) arg12 fullShare (k0_pay35 w2 r) ∗ owns (c : Thread nD τ) arg13 fullShare xcb ∗ owns (c : Thread nD τ) arg14 fullShare (dxrStep x w w2 r xs xcb dxr) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; sl_unfold_run_names; rw [read_store _ _ zz]; simp only [readAt_unread2, View.readCov_cons_toLoadRect]; unfold gStep dxrStep; exact (congrArg₂ (fun u v => k0_pay3 u _ v) (congrArg₂ (k0_pay2 _) (readCov_stk _ _ _ _) (readCov_stk _ _ _ _)) (congrArg₂ (k0_pay1 _) (readCov_stkN _ _ _ _) (readCov_stk _ _ _ _)))
  isplitl [H6]
  · iexists _; isplitr; swap; · iexact H6
    ipureintro; sl_unfold_run_names; rw [read_store _ _ zz]; simp only [readAt_unread2, View.readCov_cons_toLoadRect]; rfl
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; sl_unfold_run_names; rw [read_store _ _ zz]; simp only [readAt_unread2, View.readCov_cons_toLoadRect]
  isplitl [H10]
  · iexists _; isplitr; swap; · iexact H10
    ipureintro; sl_unfold_run_names; rw [read_store _ _ zz]; simp only [readAt_unread2, View.readCov_cons_toLoadRect]
  isplitl [H11]
  · iexists _; isplitr; swap; · iexact H11
    ipureintro; sl_unfold_run_names; rw [read_store _ _ zz]; simp only [readAt_unread2, View.readCov_cons_toLoadRect]
  isplitl [H12]
  · iexists _; isplitr; swap; · iexact H12
    ipureintro; sl_unfold_run_names; rw [read_store _ _ zz]; simp only [readAt_unread2, View.readCov_cons_toLoadRect]
  isplitl [H13]
  · iexists _; isplitr; swap; · iexact H13
    ipureintro; exact harg13.read_unread _
  isplitl [H14]
  · iexists _; isplitr; swap; · iexact H14
    ipureintro; sl_unfold_run_names; rw [read_store _ _ zz]; simp only [readAt_unread2, View.readCov_cons_toLoadRect]; unfold dxrStep; exact (congrArg₂ (k0_pay1 _) (readCov_stkN _ _ _ _) (readCov_stk _ _ _ _))
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.KernelIdeal.Front

end
-- ==== Proof.IdFrame.lean ====
/- The front call: what every grid point leaves, the body at every point, and the run of the whole call. -/
module

public import proofs.«01_k».proof.Proof.IdRunA
public import proofs.«01_k».proof.Proof.IdRunB
public import proofs.«01_k».proof.Proof.IdRunC
public import Idealize.ShloMosaic.Lib.Claim

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves in the buffers that live on to the next point: the accumulator `g` (before the last
    point's final product is added), the loss row, the codes and scales of `x` and the accumulator `dxr`. -/
structure St (F : FTy → Type) [FloatOps F] where
  g : Vec F S2048x2048 .f32
  l : Vec F S1x256 .f32
  xc : Vec F S256x2048 .i8
  xs : Vec F S1x256 .f32
  xcb : Vec F S256x2048 .bf16
  dxr : Vec F S256x2048 .f32

abbrev bx (c : Dev nD) (t : Fin cfg0.N) : Vec F S256x2048 .bf16 := iblk m c 0 t
abbrev bw (c : Dev nD) (t : Fin cfg0.N) : Vec F S256x2048 .bf16 := iblk m c 1 t
abbrev bw2 (c : Dev nD) (t : Fin cfg0.N) : Vec F S256x2048 .bf16 := iblk m c 2 t
abbrev br (c : Dev nD) (t : Fin cfg0.N) : Vec F S2048x2048 .bf16 := iblk m c 3 t

/-- What the point leaves, point by point. -/
def st (c : Dev nD) : (n : ℕ) → n < cfg0.N → St F
  | 0, h => ⟨gStep (bx m c ⟨0, h⟩) (bw m c ⟨0, h⟩) (bw2 m c ⟨0, h⟩) (br m c ⟨0, h⟩) (k0_pay9 (bx m c ⟨0, h⟩) (br m c ⟨0, h⟩)) (k0_pay8 (bx m c ⟨0, h⟩) (br m c ⟨0, h⟩)) k0_pay13,
      lossStep (bx m c ⟨0, h⟩) (bw m c ⟨0, h⟩) (bw2 m c ⟨0, h⟩) (br m c ⟨0, h⟩) (k0_pay9 (bx m c ⟨0, h⟩) (br m c ⟨0, h⟩)) (k0_pay8 (bx m c ⟨0, h⟩) (br m c ⟨0, h⟩)) k0_pay10,
      k0_pay7 (bx m c ⟨0, h⟩) (br m c ⟨0, h⟩), k0_pay9 (bx m c ⟨0, h⟩) (br m c ⟨0, h⟩), k0_pay8 (bx m c ⟨0, h⟩) (br m c ⟨0, h⟩),
      dxrStep (bx m c ⟨0, h⟩) (bw m c ⟨0, h⟩) (bw2 m c ⟨0, h⟩) (br m c ⟨0, h⟩) (k0_pay9 (bx m c ⟨0, h⟩) (br m c ⟨0, h⟩)) (k0_pay8 (bx m c ⟨0, h⟩) (br m c ⟨0, h⟩)) (k0_pay12 k0_pay11)⟩
  | n + 1, h =>
    let s := st c n (Nat.lt_of_succ_lt h)
    ⟨gStep (bx m c ⟨n + 1, h⟩) (bw m c ⟨n + 1, h⟩) (bw2 m c ⟨n + 1, h⟩) (br m c ⟨n + 1, h⟩) s.xs s.xcb s.g,
      lossStep (bx m c ⟨n + 1, h⟩) (bw m c ⟨n + 1, h⟩) (bw2 m c ⟨n + 1, h⟩) (br m c ⟨n + 1, h⟩) s.xs s.xcb s.l,
      s.xc, s.xs, s.xcb,
      dxrStep (bx m c ⟨n + 1, h⟩) (bw m c ⟨n + 1, h⟩) (bw2 m c ⟨n + 1, h⟩) (br m c ⟨n + 1, h⟩) s.xs s.xcb s.dxr⟩

theorem pred_lt (t : Fin cfg0.N) : t.val - 1 < cfg0.N := Nat.lt_of_le_of_lt (Nat.sub_le _ _) t.isLt

/-- The state before a point that is not the first. -/
abbrev pst (c : Dev nD) (t : Fin cfg0.N) : St F := st m c (t.val - 1) (pred_lt t)

theorem st_first (c : Dev nD) (t : Fin cfg0.N) (h : t.val = 0) : st m c t.val t.isLt =
    ⟨gStep (bx m c t) (bw m c t) (bw2 m c t) (br m c t) (k0_pay9 (bx m c t) (br m c t)) (k0_pay8 (bx m c t) (br m c t)) k0_pay13,
      lossStep (bx m c t) (bw m c t) (bw2 m c t) (br m c t) (k0_pay9 (bx m c t) (br m c t)) (k0_pay8 (bx m c t) (br m c t)) k0_pay10,
      k0_pay7 (bx m c t) (br m c t), k0_pay9 (bx m c t) (br m c t), k0_pay8 (bx m c t) (br m c t),
      dxrStep (bx m c t) (bw m c t) (bw2 m c t) (br m c t) (k0_pay9 (bx m c t) (br m c t)) (k0_pay8 (bx m c t) (br m c t)) (k0_pay12 k0_pay11)⟩ := by
  obtain ⟨n, hn⟩ := t
  cases n with
  | zero => rfl
  | succ n => exact absurd h (Nat.succ_ne_zero n)

theorem st_next (c : Dev nD) (t : Fin cfg0.N) (h : t.val ≠ 0) : st m c t.val t.isLt =
    ⟨gStep (bx m c t) (bw m c t) (bw2 m c t) (br m c t) (pst m c t).xs (pst m c t).xcb (pst m c t).g,
      lossStep (bx m c t) (bw m c t) (bw2 m c t) (br m c t) (pst m c t).xs (pst m c t).xcb (pst m c t).l,
      (pst m c t).xc, (pst m c t).xs, (pst m c t).xcb,
      dxrStep (bx m c t) (bw m c t) (bw2 m c t) (br m c t) (pst m c t).xs (pst m c t).xcb (pst m c t).dxr⟩ := by
  obtain ⟨n, hn⟩ := t
  cases n with
  | zero => exact absurd rfl h
  | succ n => rfl

/-- What the point leaves in the first result's buffer: the last point adds the final product. -/
def gOut (c : Dev nD) (t : Fin cfg0.N) : Vec F S2048x2048 .f32 :=
  if t.val = 21 then k0_pay3 (st m c t.val t.isLt).g (bx m c t) (st m c t.val t.isLt).dxr else (st m c t.val t.isLt).g

/-- The invariant before position `n`: the codes of `x` and the accumulator `dxr` are carried in scratch. -/
def PhiS (c : Dev nD) : (n : ℕ) → n ≤ cfg0.N → sProp 𝕄
  | 0, _ => Pipeline.ΦA spec0 c
  | n + 1, hn => iprop(iprop(owns (c : Thread nD τ) scM0_0 fullShare ((st m c n hn).xcb) ∗ owns (c : Thread nD τ) scM0_1 fullShare ((st m c n hn).dxr) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) scM0_0 fullShare ((st m c n hn).xcb) ∗ owns (c : Thread nD τ) scM0_1 fullShare ((st m c n hn).dxr) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) : PhiS m c n h = iprop(iprop(owns (c : Thread nD τ) scM0_0 fullShare ((st m c (n - 1) (by omega)).xcb) ∗ owns (c : Thread nD τ) scM0_1 fullShare ((st m c (n - 1) (by omega)).dxr) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gOut m c t
    | ⟨5, _⟩ => (st m c t.val t.isLt).l
    | ⟨6, _⟩ => (st m c t.val t.isLt).xc
    | ⟨7, _⟩ => (st m c t.val t.isLt).xs
    | ⟨8, _⟩ => k0_pay19 (bw m c t) (br m c t)
    | ⟨9, _⟩ => k0_pay22 (k0_pay21 (bw m c t) (br m c t))
    | ⟨10, _⟩ => k0_pay33 (bw2 m c t) (br m c t)
    | ⟨11, _⟩ => k0_pay35 (bw2 m c t) (br m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = gOut m c t := by dsimp only [dats]
theorem after0_5 (c : Dev nD) (t : Fin cfg0.N) : (dats m 0 c).after 5 t = (st m c t.val t.isLt).l := by dsimp only [dats]
theorem after0_6 (c : Dev nD) (t : Fin cfg0.N) : (dats m 0 c).after 6 t = (st m c t.val t.isLt).xc := by dsimp only [dats]
theorem after0_7 (c : Dev nD) (t : Fin cfg0.N) : (dats m 0 c).after 7 t = (st m c t.val t.isLt).xs := by dsimp only [dats]
theorem after0_8 (c : Dev nD) (t : Fin cfg0.N) : (dats m 0 c).after 8 t = k0_pay19 (bw m c t) (br m c t) := by dsimp only [dats]
theorem after0_9 (c : Dev nD) (t : Fin cfg0.N) : (dats m 0 c).after 9 t = k0_pay22 (k0_pay21 (bw m c t) (br m c t)) := by dsimp only [dats]
theorem after0_10 (c : Dev nD) (t : Fin cfg0.N) : (dats m 0 c).after 10 t = k0_pay33 (bw2 m c t) (br m c t) := by dsimp only [dats]
theorem after0_11 (c : Dev nD) (t : Fin cfg0.N) : (dats m 0 c).after 11 t = k0_pay35 (bw2 m c t) (br m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point that is not the first, output 4's buffer holds what the point before left. -/
theorem before0_4 (c : Dev nD) (t : Fin cfg0.N) (h : t.val ≠ 0) (d) : (dats m 0 c).before 4 t d = (pst m c t).g := by
  have hN : t.val < 22 := lt_of_lt_of_eq t.isLt (show cfg0.N = 22 from N_0)
  rw [Dat.before_out_kept _ 4 rfl t (by omega) (Bool.eq_false_iff.mpr fun h => by have := (flush0_4 _).mp h; dsimp only at this; omega)
    (fun _ => rfl) (fun _ _ => rfl), after0_4]
  exact if_neg (by dsimp only; omega)
/-- At a point that is not the first, output 5's buffer holds what the point before left. -/
theorem before0_5 (c : Dev nD) (t : Fin cfg0.N) (h : t.val ≠ 0) (d) : (dats m 0 c).before 5 t d = (pst m c t).l := by
  have hN : t.val < 22 := lt_of_lt_of_eq t.isLt (show cfg0.N = 22 from N_0)
  rw [Dat.before_out_kept _ 5 rfl t (by omega) (Bool.eq_false_iff.mpr fun h => by have := (flush0_5 _).mp h; dsimp only at this; omega)
    (fun _ => rfl) (fun _ _ => rfl), after0_5]
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h _ _
  rw [after0_6, after0_6, st_next m c t h]
/-- At a point that is not the first, output 6's buffer still holds what the first point stored. -/
theorem before0_6 (c : Dev nD) (t : Fin cfg0.N) (h : t.val ≠ 0) (d) : (dats m 0 c).before 6 t d = (pst m c t).xc := by
  rw [Dat.before_out_traj _ 6 rfl (fun _ _ => rfl) (hcarry0_6 m c) t.val t rfl d,
    if_neg (by rw [notFresh0_6 t h]; exact Bool.false_ne_true), after0_6]
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t h _ _
  rw [after0_7, after0_7, st_next m c t h]
/-- At a point that is not the first, output 7's buffer still holds what the first point stored. -/
theorem before0_7 (c : Dev nD) (t : Fin cfg0.N) (h : t.val ≠ 0) (d) : (dats m 0 c).before 7 t d = (pst m c t).xs := by
  rw [Dat.before_out_traj _ 7 rfl (fun _ _ => rfl) (hcarry0_7 m c) t.val t rfl d,
    if_neg (by rw [notFresh0_7 t h]; exact Bool.false_ne_true), after0_7]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t h], after0_6]
  rw [show (dats m 0 c).leavesExact 7 t = owns (c : Thread nD τ) (ms0_7 t) fullShare ((dats m 0 c).after 7 t) from by
    unfold Dat.leavesExact; rw [liveAt0_7 t h], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [PhiS_castSucc m c t, PhiS_zero m c _ _ h, PhiA0_eq]
  unfold gOut
  rw [if_neg (show ¬t.val = 21 by omega), st_first m c t h]
  dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) _ _ _ _ _ _ _ _ _ _ _ _ _ _ _ _ _ _ _ _ _ _ _ _ _ _ _ _ _ _ _ _ _ _ _ _ ((hcond0_0 t).mpr (by omega)) (fun h => by have := (hcond0_1 t).mp h; omega) (bx m c t) (bw m c t) (bw2 m c t) (br m c t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- The body at a point between. -/
theorem sound_B (c : Dev nD) (t : Fin cfg0.N) (h : t.val ≠ 0) (h1 : t.val ≠ 21) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4 m c t h, before0_5 m c t h, before0_6 m c t h, before0_7 m c t h]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t h) (noFlush0_6 t h1)]
  rw [Dat.leavesExact_idle (dats m 0 c) 7 t (idleAt0_7 t h) (noFlush0_7 t h1)]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  simp only [before0_6 m c t h, before0_7 m c t h]
  rw [PhiS_castSucc m c t, PhiS_pos m c _ _ h]
  unfold gOut
  rw [if_neg h1, st_next m c t h]
  dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ _ _ _ _ _ _ _ _ _ _ (fun h => by have := (hcond0_0 t).mp h; omega) (fun h => by have := (hcond0_1 t).mp h; omega) (bx m c t) (bw m c t) (bw2 m c t) (br m c t) (pst m c t).g (pst m c t).l (pst m c t).xc (pst m c t).xs (pst m c t).xcb (pst m c t).dxr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  isplitl [H8]; · iexact H8
  isplitl [H9]; · iexact H9
  isplitl [H10]; · iexact H10
  iexact H11

set_option maxHeartbeats 4000000 in
/-- The body at the last point. -/
theorem sound_C (c : Dev nD) (t : Fin cfg0.N) (h : t.val ≠ 0) (h1 : t.val = 21) :
    bodyPre m c t ⊢ wp frame (wpE (defs₀ (F := F)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4 m c t h, before0_5 m c t h, before0_6 m c t h, before0_7 m c t h]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [idleAt0_6 t h, flushLast0_6 t h1], after0_6]
  rw [show (dats m 0 c).leavesExact 7 t = owns (c : Thread nD τ) (ms0_7 t) fullShare ((dats m 0 c).after 7 t) from by
    unfold Dat.leavesExact; rw [idleAt0_7 t h, flushLast0_7 t h1], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [PhiS_castSucc m c t, PhiS_pos m c _ _ h]
  unfold gOut
  rw [if_pos h1, st_next m c t h]
  dsimp only
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ _ _ _ _ _ _ _ _ _ _ (fun h => by have := (hcond0_0 t).mp h; omega) ((hcond0_1 t).mpr (by omega)) (bx m c t) (bw m c t) (bw2 m c t) (br m c t) (pst m c t).g (pst m c t).l (pst m c t).xc (pst m c t).xs (pst m c t).xcb (pst m c t).dxr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  · by_cases h1 : t.val = 21
    · exact sound_C m c t h h1
    · exact sound_B m c t h h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 22 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer at what the host lines after the call leave in it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The call runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Front

end
-- ==== Proof.Spec.lean ====
/- The mathematics of the step over the extended reals, on matrices with plain indices: the rotated operands, the
   scales and codes of the row-wise quantiser, the errors, the losses and the gradient. Also that the codes are small
   integers, so that storing them as 8-bit integers and reading them back changes nothing. -/
module

public import Idealize.ShloMosaic.Lib.Pointwise
public import Idealize.ShloMosaic.Lib.Pipeline.ValueKit

@[expose] public section

set_option maxRecDepth 16384

noncomputable section

namespace Cert.Spec

open Idealize.ShloMosaic

abbrev Mat (n k : ℕ) := Fin n → Fin k → EReal

/-- The constants of the two quantisers and of the gradient, by their binary32 words. -/
abbrev lim8 : EReal := Ideal.ofBits FTy.f32 0x42FE0000#32
abbrev nlim8 : EReal := Ideal.ofBits FTy.f32 0xC2FE0000#32
abbrev lim4 : EReal := Ideal.ofBits FTy.f32 0x40E00000#32
abbrev nlim4 : EReal := Ideal.ofBits FTy.f32 0xC0E00000#32
abbrev gsc : EReal := Ideal.ofBits FTy.f32 0x35BA2E8C#32

/-- A matrix times the rotation. -/
def proj {n : ℕ} (A : Mat n 2048) (R : Mat 2048 2048) : Mat n 2048 := fun i e => ∑ d, A i d * R d e

/-- The largest magnitude of a row. -/
def amax (v : Fin 2048 → EReal) : EReal :=
  Finset.fold max (Ideal.ofBits FTy.f32 0xFF800000#32) (fun e => FloatOps.absf (F := Ideal) (φ := FTy.f32) (v e)) Finset.univ

/-- The scale of a row. -/
def scale (lim : EReal) (v : Fin 2048 → EReal) : EReal :=
  if amax v = 0 then 1 else Ideal.div (amax v) lim

/-- The codes of a row, before they are stored. -/
def code (lim nlim : EReal) (v : Fin 2048 → EReal) (e : Fin 2048) : EReal :=
  min lim (max nlim (Ideal.liftRound Ideal.roundHalfEven (Ideal.div (v e) (scale lim v))))

def sx {n : ℕ} (X : Mat n 2048) (R : Mat 2048 2048) (i : Fin n) : EReal := scale lim8 (proj X R i)
def cx {n : ℕ} (X : Mat n 2048) (R : Mat 2048 2048) : Mat n 2048 := fun i e => code lim8 nlim8 (proj X R i) e
def sw {n : ℕ} (W : Mat n 2048) (R : Mat 2048 2048) (i : Fin n) : EReal := scale lim4 (proj W R i)
def cw {n : ℕ} (W : Mat n 2048) (R : Mat 2048 2048) : Mat n 2048 := fun i e => code lim4 nlim4 (proj W R i) e

/-- The error of output `o` at row `b`. -/
def err {k n : ℕ} (X : Mat k 2048) (W : Mat n 2048) (R : Mat 2048 2048) (o : Fin n) (b : Fin k) : EReal :=
  (∑ d, cw W R o d * cx X R b d) * sx X R b * sw W R o - ∑ d, W o d * X b d

def dy {k n : ℕ} (X : Mat k 2048) (W : Mat n 2048) (R : Mat 2048 2048) (o : Fin n) (b : Fin k) : EReal :=
  err X W R o b * gsc

/-- The gradient at one weight's rotated rows. -/
def dwr {k n : ℕ} (X : Mat k 2048) (W : Mat n 2048) (R : Mat 2048 2048) : Mat n 2048 := fun o e =>
  ∑ b, dy X W R o b * sx X R b * cx X R b e

/-- One output's part of the loss, of the gradient at the rotated rows of `x`, and of the result. -/
def lossT {k n : ℕ} (X : Mat k 2048) (W : Mat n 2048) (R : Mat 2048 2048) (o : Fin n) (b : Fin k) : EReal :=
  err X W R o b * err X W R o b
def dxrT {k n : ℕ} (X : Mat k 2048) (W : Mat n 2048) (R : Mat 2048 2048) (o : Fin n) (b : Fin k) (e : Fin 2048) : EReal :=
  dy X W R o b * sw W R o * cw W R o e
def gT {k n : ℕ} (X : Mat k 2048) (W : Mat n 2048) (R : Mat 2048 2048) (o : Fin n) (d e : Fin 2048) : EReal :=
  W o d * dwr X W R o e

/-- The loss of row `b`, the gradient at the rotated rows of `x`, and the gradient. -/
def lossV {k n : ℕ} (X : Mat k 2048) (W W2 : Mat n 2048) (R : Mat 2048 2048) (b : Fin k) : EReal :=
  ∑ o, lossT X W R o b + ∑ o, lossT X W2 R o b
def dxrV {k n : ℕ} (X : Mat k 2048) (W W2 : Mat n 2048) (R : Mat 2048 2048) : Mat k 2048 := fun b e =>
  ∑ o, dxrT X W R o b e + ∑ o, dxrT X W2 R o b e
def gV {k n : ℕ} (X : Mat k 2048) (W W2 : Mat n 2048) (R : Mat 2048 2048) : Mat 2048 2048 := fun d e =>
  ∑ b, X b d * dxrV X W W2 R b e + ∑ o, gT X W R o d e + ∑ o, gT X W2 R o d e

/-! ## The codes are small integers -/

theorem lim8_eq : lim8 = ((127 : ℤ) : ℝ) := by
  rw [show (((127 : ℤ) : ℝ) : EReal) = ((127 : ℝ) : EReal) by norm_num]
  simp [lim8, Ideal.ofBits, Ideal.ieee, -EReal.coe_mul, -EReal.coe_neg]; norm_num
theorem nlim8_eq : nlim8 = ((-127 : ℤ) : ℝ) := by
  rw [show (((-127 : ℤ) : ℝ) : EReal) = ((-127 : ℝ) : EReal) by norm_num]
  simp [nlim8, Ideal.ofBits, Ideal.ieee, -EReal.coe_mul, -EReal.coe_neg]; norm_num
theorem lim4_eq : lim4 = ((7 : ℤ) : ℝ) := by
  rw [show (((7 : ℤ) : ℝ) : EReal) = ((7 : ℝ) : EReal) by norm_num]
  simp [lim4, Ideal.ofBits, Ideal.ieee, -EReal.coe_mul, -EReal.coe_neg]; norm_num
theorem nlim4_eq : nlim4 = ((-7 : ℤ) : ℝ) := by
  rw [show (((-7 : ℤ) : ℝ) : EReal) = ((-7 : ℝ) : EReal) by norm_num]
  simp [nlim4, Ideal.ofBits, Ideal.ieee, -EReal.coe_mul, -EReal.coe_neg]; norm_num

theorem clip_int (f : ℝ → ℤ) (a b : ℤ) (hab : a ≤ b) (z : EReal) :
    ∃ n : ℤ, a ≤ n ∧ n ≤ b ∧ min ((b : ℝ) : EReal) (max ((a : ℝ) : EReal) (Ideal.liftRound f z)) = ((n : ℝ) : EReal) := by
  induction z using EReal.rec with
  | bot => exact ⟨a, le_rfl, hab, by
      rw [Ideal.liftRound_bot, max_eq_left bot_le, min_eq_right (EReal.coe_le_coe_iff.mpr (by exact_mod_cast hab))]⟩
  | top => exact ⟨b, hab, le_rfl, by rw [Ideal.liftRound_top, max_eq_right le_top, min_eq_left le_top]⟩
  | coe r =>
    refine ⟨min b (max a (f r)), le_min hab (le_max_left _ _), min_le_left _ _, ?_⟩
    rw [Ideal.liftRound_coe, ← EReal.coe_strictMono.monotone.map_max, ← EReal.coe_strictMono.monotone.map_min]
    norm_cast

/-- A small integer survives the round trip through an 8-bit integer. -/
theorem fptosi_int (w : ℕ) (n : ℤ) (h1 : -(2 ^ (w - 1) : ℕ) ≤ n) (h2 : n ≤ ((2 ^ (w - 1) : ℕ) : ℤ) - 1) :
    Ideal.fptosi w ((n : ℝ) : EReal) = BitVec.ofInt w n := by
  unfold Ideal.fptosi
  rw [Ideal.toIntClamped_coe, Int.floor_intCast, Int.ceil_intCast, ite_self]
  congr 1
  rw [min_eq_right h2, max_eq_right h1]

theorem int8_trip (n : ℤ) (h1 : -127 ≤ n) (h2 : n ≤ 127) :
    (BitVec.ofInt 32 n).setWidth 8 = BitVec.ofInt 8 n ∧ ((BitVec.ofInt 8 n).signExtend 32).toInt = n := by
  have h : ∀ k : Fin 255, (BitVec.ofInt 32 ((k.val : ℤ) - 127)).setWidth 8 = BitVec.ofInt 8 ((k.val : ℤ) - 127)
      ∧ ((BitVec.ofInt 8 ((k.val : ℤ) - 127)).signExtend 32).toInt = (k.val : ℤ) - 127 := by decide +kernel
  have := h ⟨(n + 127).toNat, by omega⟩
  rwa [show (((⟨(n + 127).toNat, by omega⟩ : Fin 255).val : ℕ) : ℤ) - 127 = n from by dsimp only; omega] at this

/-- What the codes are stored as, the wide conversion first or not. -/
theorem store_of_int {v : EReal} (h : ∃ n : ℤ, -127 ≤ n ∧ n ≤ 127 ∧ v = ((n : ℝ) : EReal)) :
    (Ideal.fptosi 32 v).setWidth 8 = Ideal.fptosi 8 v
      ∧ ((((Ideal.fptosi 8 v).signExtend 32).toInt : ℝ) : EReal) = v := by
  obtain ⟨n, h1, h2, rfl⟩ := h
  rw [fptosi_int 32 n (by norm_num; omega) (by norm_num; omega), fptosi_int 8 n (by norm_num; omega) (by norm_num; omega)]
  exact ⟨(int8_trip n h1 h2).1, by rw [(int8_trip n h1 h2).2]⟩

theorem cx_int {n : ℕ} (X : Mat n 2048) (R : Mat 2048 2048) (i : Fin n) (e : Fin 2048) :
    ∃ k : ℤ, -127 ≤ k ∧ k ≤ 127 ∧ cx X R i e = ((k : ℝ) : EReal) := by
  unfold cx code; rw [nlim8_eq]
  generalize Ideal.div _ _ = z
  rw [lim8_eq]
  exact clip_int _ (-127) 127 (by norm_num) z

theorem cw_int {n : ℕ} (W : Mat n 2048) (R : Mat 2048 2048) (i : Fin n) (e : Fin 2048) :
    ∃ k : ℤ, -127 ≤ k ∧ k ≤ 127 ∧ cw W R i e = ((k : ℝ) : EReal) := by
  unfold cw code; rw [nlim4_eq]
  generalize Ideal.div _ _ = z
  rw [lim4_eq]
  obtain ⟨n, h1, h2, h⟩ := clip_int Ideal.roundHalfEven (-7) 7 (by norm_num) z
  exact ⟨n, by omega, by omega, h⟩

/-! ## Sums over the grid -/

/-- Row `k` of block `p`. -/
def row (p : Fin 22) (k : Fin 256) : Fin 5632 := ⟨256 * p.val + k.val, by have := p.isLt; have := k.isLt; omega⟩
/-- Row `j` of batch `s`. -/
def rowx (s : Fin 2) (j : Fin 128) : Fin 256 := ⟨128 * s.val + j.val, by have := s.isLt; have := j.isLt; omega⟩

theorem sum_row (f : Fin 5632 → EReal) : ∑ p : Fin 22, ∑ k : Fin 256, f (row p k) = ∑ o, f o := by
  rw [← Fintype.sum_prod_type']
  exact Fintype.sum_equiv (finProdFinEquiv (m := 22) (n := 256)) _ _ fun q => by
    congr 1; apply Fin.ext; simp [row, finProdFinEquiv]; omega
theorem sum_rowx (f : Fin 256 → EReal) : ∑ s : Fin 2, ∑ j : Fin 128, f (rowx s j) = ∑ b, f b := by
  rw [← Fintype.sum_prod_type']
  exact Fintype.sum_equiv (finProdFinEquiv (m := 2) (n := 128)) _ _ fun q => by
    congr 1; apply Fin.ext; simp [rowx, finProdFinEquiv]; omega

/-! ## The mean losses -/

/-- The number of outputs and of rows, by their binary32 words. -/
abbrev nOut : EReal := Ideal.ofBits FTy.f32 0x45B00000#32
abbrev nRow : EReal := Ideal.ofBits FTy.f32 0x43800000#32

/-- The mean loss of a row over the outputs, and its mean over the rows. -/
def tokV {k n : ℕ} (X : Mat k 2048) (W W2 : Mat n 2048) (R : Mat 2048 2048) (b : Fin k) : EReal := Ideal.div (lossV X W W2 R b) nOut
def meanV {n : ℕ} (X : Mat 256 2048) (W W2 : Mat n 2048) (R : Mat 2048 2048) : EReal := Ideal.div (∑ b, tokV X W W2 R b) nRow

theorem nOut_eq : nOut = ((5632 : ℝ) : EReal) := by
  simp [nOut, Ideal.ofBits, Ideal.ieee, -EReal.coe_mul, -EReal.coe_neg]; norm_num

theorem square_nonneg (x : EReal) : 0 ≤ x * x := by
  rcases le_total 0 x with h | h
  · exact mul_nonneg h h
  · have e : x * x = (-x) * (-x) := by rw [EReal.neg_mul, EReal.mul_comm x (-x), EReal.neg_mul, neg_neg]
    have p : 0 ≤ -x := by simpa using EReal.neg_le_neg_iff.mpr h
    rw [e]; exact mul_nonneg p p

/-- The two mean losses add up to the mean of the sum: squares are not negative. -/
theorem tokV_eq {k n : ℕ} (X : Mat k 2048) (W W2 : Mat n 2048) (R : Mat 2048 2048) (b : Fin k) :
    Ideal.div (∑ o, lossT X W R o b) nOut + Ideal.div (∑ o, lossT X W2 R o b) nOut = tokV X W W2 R b := by
  unfold tokV lossV
  rw [nOut_eq, Ideal.div_coe (by norm_num), Ideal.div_coe (by norm_num), Ideal.div_coe (by norm_num)]
  exact (EReal.right_distrib_of_nonneg (Finset.sum_nonneg fun o _ => square_nonneg _) (Finset.sum_nonneg fun o _ => square_nonneg _)).symm

end Cert.Spec

end
-- ==== Proof.IdPay.lean ====
/- What one grid point's expressions are at an index, in the words of Spec. -/
module

public import proofs.«01_k».proof.Proof.IdBase
public import proofs.«01_k».proof.Proof.Spec

@[expose] public section

set_option maxRecDepth 16384

noncomputable section

namespace Cert.KernelIdeal.Front

open Cert.KernelIdeal Cert.KernelIdeal.Gen Idealize.ShloMosaic Cert.Spec

/-- A matrix of the program, with plain indices. -/
def m2 {n k : ℕ} (x : Vec Ideal (⟨2, ![n, k]⟩ : Shape) .bf16) : Mat n k := fun i j => x (ix2 i j)

theorem scale_def (lim : EReal) (v : Fin 2048 → EReal) : (if amax v = 0 then 1 else Ideal.div (amax v) lim) = scale lim v := rfl
theorem code_def (lim nlim : EReal) (v : Fin 2048 → EReal) (e : Fin 2048) :
    min lim (max nlim (Ideal.liftRound Ideal.roundHalfEven (Ideal.div (v e) (scale lim v)))) = code lim nlim v e := rfl

/-- The scale column of a column of largest magnitudes. -/
theorem scale_at (lim : BitVec 32) (v : FVec Ideal S256x1 .f32) (i : Fin 256) :
    select (cmpf .oeq v (broadcast S256x1 (Scalar.ofBits (F := Ideal) .f32 0x00000000#32)))
      (broadcast S256x1 (Scalar.ofBits (F := Ideal) .f32 0x3F800000#32)) (divf v (broadcast S256x1 (Scalar.ofBits (F := Ideal) .f32 lim))) (ix2 i 0)
      = if v (ix2 i 0) = 0 then 1 else Ideal.div (v (ix2 i 0)) (Ideal.ofBits FTy.f32 lim) := by
  pointwise []

theorem amax_at (y : FVec Ideal S256x2048 .f32) (i : Fin 256) :
    shapeCast S256x1 (multiReduction .maximumf [1] S256 (absf y) 0xFF800000#32 reduces_S256x2048_S256 (.inl rfl) rfl) shapeCasts_S256_S256x1 (ix2 i 0)
      = amax fun e => y (ix2 i e) := by
  pointwise []
  rfl

theorem projX (x : Vec Ideal S256x2048 .bf16) (r : Vec Ideal S2048x2048 .bf16) (i : Fin 256) (e : Fin 2048) :
    k0_pay4 x r (ix2 i e) = proj (m2 x) (m2 r) i e := by
  unfold k0_pay4
  pointwise []
  rfl

theorem scaleX (x : Vec Ideal S256x2048 .bf16) (r : Vec Ideal S2048x2048 .bf16) (i : Fin 256) :
    k0_pay5 x r (ix2 i 0) = sx (m2 x) (m2 r) i := by
  unfold k0_pay5
  refine (scale_at 0x42FE0000#32 _ i).trans ?_
  rw [amax_at, show (fun e => k0_pay4 x r (ix2 i e)) = proj (m2 x) (m2 r) i from funext fun e => projX x r i e]
  exact scale_def _ _

theorem codeX (x : Vec Ideal S256x2048 .bf16) (r : Vec Ideal S2048x2048 .bf16) (i : Fin 256) (e : Fin 2048) :
    k0_pay6 x r (ix2 i e) = cx (m2 x) (m2 r) i e := by
  have h0 := projX x r
  have h1 := scaleX x r
  unfold k0_pay6
  obtain ⟨y0, ey0⟩ : ∃ y, k0_pay4 x r = y := ⟨_, rfl⟩
  obtain ⟨y1, ey1⟩ : ∃ y, k0_pay5 x r = y := ⟨_, rfl⟩
  simp only [ey0] at h0 ⊢
  simp only [ey1] at h1 ⊢
  pointwise []
  rw [h0, h1]
  exact code_def _ _ _ _

theorem storedX (x : Vec Ideal S256x2048 .bf16) (r : Vec Ideal S2048x2048 .bf16) (i : Fin 256) (e : Fin 2048) :
    k0_pay7 x r (ix2 i e) = Ideal.fptosi 8 (cx (m2 x) (m2 r) i e) := by
  have h0 := codeX x r
  unfold k0_pay7
  obtain ⟨y0, ey0⟩ : ∃ y, k0_pay6 x r = y := ⟨_, rfl⟩
  simp only [ey0] at h0 ⊢
  pointwise []
  rw [h0]
  rfl

theorem codedX (x : Vec Ideal S256x2048 .bf16) (r : Vec Ideal S2048x2048 .bf16) (i : Fin 256) (e : Fin 2048) :
    k0_pay8 x r (ix2 i e) = cx (m2 x) (m2 r) i e := by
  have h0 := codeX x r
  unfold k0_pay8
  obtain ⟨y0, ey0⟩ : ∃ y, k0_pay6 x r = y := ⟨_, rfl⟩
  simp only [ey0] at h0 ⊢
  pointwise []
  rw [h0]

theorem projW (x : Vec Ideal S256x2048 .bf16) (r : Vec Ideal S2048x2048 .bf16) (i : Fin 256) (e : Fin 2048) :
    k0_pay16 x r (ix2 i e) = proj (m2 x) (m2 r) i e := by
  unfold k0_pay16
  pointwise []
  rfl

theorem scaleW (x : Vec Ideal S256x2048 .bf16) (r : Vec Ideal S2048x2048 .bf16) (i : Fin 256) :
    k0_pay17 x r (ix2 i 0) = sw (m2 x) (m2 r) i := by
  unfold k0_pay17
  refine (scale_at 0x40E00000#32 _ i).trans ?_
  rw [amax_at, show (fun e => k0_pay16 x r (ix2 i e)) = proj (m2 x) (m2 r) i from funext fun e => projW x r i e]
  exact scale_def _ _

theorem codeW (x : Vec Ideal S256x2048 .bf16) (r : Vec Ideal S2048x2048 .bf16) (i : Fin 256) (e : Fin 2048) :
    k0_pay18 x r (ix2 i e) = cw (m2 x) (m2 r) i e := by
  have h0 := projW x r
  have h1 := scaleW x r
  unfold k0_pay18
  obtain ⟨y0, ey0⟩ : ∃ y, k0_pay16 x r = y := ⟨_, rfl⟩
  obtain ⟨y1, ey1⟩ : ∃ y, k0_pay17 x r = y := ⟨_, rfl⟩
  simp only [ey0] at h0 ⊢
  simp only [ey1] at h1 ⊢
  pointwise []
  rw [h0, h1]
  exact code_def _ _ _ _

theorem storedW (x : Vec Ideal S256x2048 .bf16) (r : Vec Ideal S2048x2048 .bf16) (i : Fin 256) (e : Fin 2048) :
    k0_pay19 x r (ix2 i e) = Ideal.fptosi 8 (cw (m2 x) (m2 r) i e) := by
  have h0 := codeW x r
  unfold k0_pay19
  obtain ⟨y0, ey0⟩ : ∃ y, k0_pay18 x r = y := ⟨_, rfl⟩
  simp only [ey0] at h0 ⊢
  pointwise []
  rw [h0]
  rfl

theorem codedW (x : Vec Ideal S256x2048 .bf16) (r : Vec Ideal S2048x2048 .bf16) (i : Fin 256) (e : Fin 2048) :
    k0_pay20 x r (ix2 i e) = cw (m2 x) (m2 r) i e := by
  have h0 := codeW x r
  unfold k0_pay20
  obtain ⟨y0, ey0⟩ : ∃ y, k0_pay18 x r = y := ⟨_, rfl⟩
  simp only [ey0] at h0 ⊢
  pointwise []
  rw [h0]

theorem projW2 (x : Vec Ideal S256x2048 .bf16) (r : Vec Ideal S2048x2048 .bf16) (i : Fin 256) (e : Fin 2048) :
    k0_pay30 x r (ix2 i e) = proj (m2 x) (m2 r) i e := by
  unfold k0_pay30
  pointwise []
  rfl

theorem scaleW2 (x : Vec Ideal S256x2048 .bf16) (r : Vec Ideal S2048x2048 .bf16) (i : Fin 256) :
    k0_pay31 x r (ix2 i 0) = sw (m2 x) (m2 r) i := by
  unfold k0_pay31
  refine (scale_at 0x40E00000#32 _ i).trans ?_
  rw [amax_at, show (fun e => k0_pay30 x r (ix2 i e)) = proj (m2 x) (m2 r) i from funext fun e => projW2 x r i e]
  exact scale_def _ _

theorem codeW2 (x : Vec Ideal S256x2048 .bf16) (r : Vec Ideal S2048x2048 .bf16) (i : Fin 256) (e : Fin 2048) :
    k0_pay32 x r (ix2 i e) = cw (m2 x) (m2 r) i e := by
  have h0 := projW2 x r
  have h1 := scaleW2 x r
  unfold k0_pay32
  obtain ⟨y0, ey0⟩ : ∃ y, k0_pay30 x r = y := ⟨_, rfl⟩
  obtain ⟨y1, ey1⟩ : ∃ y, k0_pay31 x r = y := ⟨_, rfl⟩
  simp only [ey0] at h0 ⊢
  simp only [ey1] at h1 ⊢
  pointwise []
  rw [h0, h1]
  exact code_def _ _ _ _

theorem storedW2 (x : Vec Ideal S256x2048 .bf16) (r : Vec Ideal S2048x2048 .bf16) (i : Fin 256) (e : Fin 2048) :
    k0_pay33 x r (ix2 i e) = Ideal.fptosi 8 (cw (m2 x) (m2 r) i e) := by
  have h0 := codeW2 x r
  unfold k0_pay33
  obtain ⟨y0, ey0⟩ : ∃ y, k0_pay32 x r = y := ⟨_, rfl⟩
  simp only [ey0] at h0 ⊢
  pointwise []
  rw [h0]
  rfl

theorem codedW2 (x : Vec Ideal S256x2048 .bf16) (r : Vec Ideal S2048x2048 .bf16) (i : Fin 256) (e : Fin 2048) :
    k0_pay34 x r (ix2 i e) = cw (m2 x) (m2 r) i e := by
  have h0 := codeW2 x r
  unfold k0_pay34
  obtain ⟨y0, ey0⟩ : ∃ y, k0_pay32 x r = y := ⟨_, rfl⟩
  simp only [ey0] at h0 ⊢
  pointwise []
  rw [h0]

/-! ## The scale rows -/

theorem rowX (x : Vec Ideal S256x2048 .bf16) (r : Vec Ideal S2048x2048 .bf16) (i : Fin 256) :
    k0_pay9 x r (ix2 0 i) = sx (m2 x) (m2 r) i := by
  have h1 := scaleX x r
  unfold k0_pay9
  obtain ⟨y1, ey1⟩ : ∃ y, k0_pay5 x r = y := ⟨_, rfl⟩
  simp only [ey1] at h1 ⊢
  pointwise []
  rw [← h1 i]

theorem rowW (x : Vec Ideal S256x2048 .bf16) (r : Vec Ideal S2048x2048 .bf16) (i : Fin 256) :
    k0_pay22 (k0_pay21 x r) (ix2 0 i) = sw (m2 x) (m2 r) i := by
  have h1 := scaleW x r
  unfold k0_pay22 k0_pay21
  obtain ⟨y1, ey1⟩ : ∃ y, k0_pay17 x r = y := ⟨_, rfl⟩
  simp only [ey1] at h1 ⊢
  pointwise []
  rw [← h1 i]

theorem rowW2 (x : Vec Ideal S256x2048 .bf16) (r : Vec Ideal S2048x2048 .bf16) (i : Fin 256) :
    k0_pay35 x r (ix2 0 i) = sw (m2 x) (m2 r) i := by
  have h1 := scaleW2 x r
  unfold k0_pay35
  obtain ⟨y1, ey1⟩ : ∃ y, k0_pay31 x r = y := ⟨_, rfl⟩
  simp only [ey1] at h1 ⊢
  pointwise []
  rw [← h1 i]

/-! ## The error of a weight block and what is made of it -/

/-- The operands of a weight block's products, in the words of Spec. -/
structure Ops (X W : Mat 256 2048) (R : Mat 2048 2048) (xs : FVec Ideal S1x256 .f32) (w : Vec Ideal S256x2048 .bf16)
    (sc : FVec Ideal S256x1 .f32) (wc xcb x : Vec Ideal S256x2048 .bf16) : Prop where
  hxs : ∀ b, xs (ix2 0 b) = sx X R b
  hw : ∀ o d, w (ix2 o d) = W o d
  hsc : ∀ o, sc (ix2 o 0) = sw W R o
  hwc : ∀ o d, wc (ix2 o d) = cw W R o d
  hxcb : ∀ b d, xcb (ix2 b d) = cx X R b d
  hx : ∀ b d, x (ix2 b d) = X b d

section
variable {X W : Mat 256 2048} {R : Mat 2048 2048} {xs : FVec Ideal S1x256 .f32} {w : Vec Ideal S256x2048 .bf16}
    {sc : FVec Ideal S256x1 .f32} {wc xcb x : Vec Ideal S256x2048 .bf16}

theorem errW (H : Ops X W R xs w sc wc xcb x) (o b : Fin 256) : k0_pay23 xs w sc wc xcb x (ix2 o b) = err X W R o b := by
  unfold k0_pay23
  pointwise []
  simp only [H.hxs, H.hw, H.hsc, H.hwc, H.hxcb, H.hx]
  rfl

theorem lossW (H : Ops X W R xs w sc wc xcb x) (l : Vec Ideal S1x256 .f32) (b : Fin 256) :
    k0_pay24 xs w sc wc xcb x l (ix2 0 b) = l (ix2 0 b) + ∑ o, lossT X W R o b := by
  have h0 := errW H
  unfold k0_pay24
  obtain ⟨y0, ey0⟩ : ∃ y, k0_pay23 xs w sc wc xcb x = y := ⟨_, rfl⟩
  simp only [ey0] at h0 ⊢
  pointwise []
  simp only [h0]
  rfl

theorem dyW (H : Ops X W R xs w sc wc xcb x) (o b : Fin 256) : k0_pay25 xs w sc wc xcb x (ix2 o b) = dy X W R o b := by
  have h0 := errW H
  unfold k0_pay25
  obtain ⟨y0, ey0⟩ : ∃ y, k0_pay23 xs w sc wc xcb x = y := ⟨_, rfl⟩
  simp only [ey0] at h0 ⊢
  pointwise []
  rw [h0]
  rfl

theorem dysW (H : Ops X W R xs w sc wc xcb x) (o b : Fin 256) :
    k0_pay26 xs w sc wc xcb x (ix2 o b) = dy X W R o b * sw W R o := by
  have h0 := dyW H
  unfold k0_pay26
  obtain ⟨y0, ey0⟩ : ∃ y, k0_pay25 xs w sc wc xcb x = y := ⟨_, rfl⟩
  simp only [ey0] at h0 ⊢
  pointwise []
  rw [h0, H.hsc]

theorem dwrW (H : Ops X W R xs w sc wc xcb x) (o : Fin 256) (e : Fin 2048) :
    k0_pay28 (k0_pay27 xs w sc wc xcb x xcb) (ix2 o e) = dwr X W R o e := by
  have h0 := dyW H
  unfold k0_pay28 k0_pay27
  obtain ⟨y0, ey0⟩ : ∃ y, k0_pay25 xs w sc wc xcb x = y := ⟨_, rfl⟩
  simp only [ey0] at h0 ⊢
  pointwise []
  simp only [h0, H.hxs, H.hxcb]
  rfl

theorem errW2 (H : Ops X W R xs w sc wc xcb x) (o b : Fin 256) : k0_pay36 xs w sc wc xcb x (ix2 o b) = err X W R o b := by
  unfold k0_pay36
  pointwise []
  simp only [H.hxs, H.hw, H.hsc, H.hwc, H.hxcb, H.hx]
  rfl

theorem lossW2 (H : Ops X W R xs w sc wc xcb x) (l : Vec Ideal S1x256 .f32) (b : Fin 256) :
    k0_pay37 xs w sc wc xcb x l (ix2 0 b) = l (ix2 0 b) + ∑ o, lossT X W R o b := by
  have h0 := errW2 H
  unfold k0_pay37
  obtain ⟨y0, ey0⟩ : ∃ y, k0_pay36 xs w sc wc xcb x = y := ⟨_, rfl⟩
  simp only [ey0] at h0 ⊢
  pointwise []
  simp only [h0]
  rfl

theorem dyW2 (H : Ops X W R xs w sc wc xcb x) (o b : Fin 256) : k0_pay38 xs w sc wc xcb x (ix2 o b) = dy X W R o b := by
  have h0 := errW2 H
  unfold k0_pay38
  obtain ⟨y0, ey0⟩ : ∃ y, k0_pay36 xs w sc wc xcb x = y := ⟨_, rfl⟩
  simp only [ey0] at h0 ⊢
  pointwise []
  rw [h0]
  rfl

theorem dysW2 (H : Ops X W R xs w sc wc xcb x) (o b : Fin 256) :
    k0_pay39 xs w sc wc xcb x (ix2 o b) = dy X W R o b * sw W R o := by
  have h0 := dyW2 H
  unfold k0_pay39
  obtain ⟨y0, ey0⟩ : ∃ y, k0_pay38 xs w sc wc xcb x = y := ⟨_, rfl⟩
  simp only [ey0] at h0 ⊢
  pointwise []
  rw [h0, H.hsc]

theorem dwrW2 (H : Ops X W R xs w sc wc xcb x) (o : Fin 256) (e : Fin 2048) :
    k0_pay40 xs w sc wc xcb x xcb (ix2 o e) = dwr X W R o e := by
  have h0 := dyW2 H
  unfold k0_pay40
  obtain ⟨y0, ey0⟩ : ∃ y, k0_pay38 xs w sc wc xcb x = y := ⟨_, rfl⟩
  simp only [ey0] at h0 ⊢
  pointwise []
  simp only [h0, H.hxs, H.hxcb]
  rfl

end

/-! ## The stacked halves -/

theorem stk_lo (a b : Vec Ideal S256x2048 .bf16) (i : Fin 256) (e : Fin 2048) (h : i.val < 512) : stk a b (ix2 ⟨i.val, h⟩ e) = a (ix2 i e) := by
  unfold stk
  refine View.canon_eq_of_allAt _ _ _ (View.cover_of_tiled_head _ _ _ rfl _) (View.allAt_cons_unit _ _ _ _ _ (fun x hx => ?_) (View.allAt_cons_unit _ _ _ _ _ (fun x hx => ?_) (View.allAt_nil _ _))) <;>
    have h0 := hx 0 <;> have h1 := hx 1 <;> simp [ix2] at h0 h1
  · omega
  · exact congrArg a (funext fun q => Fin.ext (by fin_cases q <;> simp [ix2] <;> omega))

theorem stk_hi (a b : Vec Ideal S256x2048 .bf16) (i : Fin 256) (e : Fin 2048) (h : 256 + i.val < 512) : stk a b (ix2 ⟨256 + i.val, h⟩ e) = b (ix2 i e) := by
  unfold stk
  refine View.canon_eq_of_allAt _ _ _ (View.cover_of_tiled_head _ _ _ rfl _) (View.allAt_cons_unit _ _ _ _ _ (fun x hx => ?_) (View.allAt_cons_unit _ _ _ _ _ (fun x hx => ?_) (View.allAt_nil _ _))) <;>
    have h0 := hx 0 <;> have h1 := hx 1 <;> simp [ix2] at h0 h1
  · exact congrArg b (funext fun q => Fin.ext (by fin_cases q <;> simp [ix2] <;> omega))
  · have : (x 0).val < 256 := (x 0).isLt
    omega

theorem stkN_lo (a b : Vec Ideal S256x256 .bf16) (i : Fin 256) (e : Fin 256) (h : i.val < 512) : stkN a b (ix2 ⟨i.val, h⟩ e) = a (ix2 i e) := by
  unfold stkN
  refine View.canon_eq_of_allAt _ _ _ (View.cover_of_tiled_head _ _ _ rfl _) (View.allAt_cons_unit _ _ _ _ _ (fun x hx => ?_) (View.allAt_cons_unit _ _ _ _ _ (fun x hx => ?_) (View.allAt_nil _ _))) <;>
    have h0 := hx 0 <;> have h1 := hx 1 <;> simp [ix2] at h0 h1
  · omega
  · exact congrArg a (funext fun q => Fin.ext (by fin_cases q <;> simp [ix2] <;> omega))

theorem stkN_hi (a b : Vec Ideal S256x256 .bf16) (i : Fin 256) (e : Fin 256) (h : 256 + i.val < 512) : stkN a b (ix2 ⟨256 + i.val, h⟩ e) = b (ix2 i e) := by
  unfold stkN
  refine View.canon_eq_of_allAt _ _ _ (View.cover_of_tiled_head _ _ _ rfl _) (View.allAt_cons_unit _ _ _ _ _ (fun x hx => ?_) (View.allAt_cons_unit _ _ _ _ _ (fun x hx => ?_) (View.allAt_nil _ _))) <;>
    have h0 := hx 0 <;> have h1 := hx 1 <;> simp [ix2] at h0 h1
  · exact congrArg b (funext fun q => Fin.ext (by fin_cases q <;> simp [ix2] <;> omega))
  · have : (x 0).val < 256 := (x 0).isLt
    omega

theorem pay1_at (acc : Vec Ideal S256x2048 .f32) (p : Vec Ideal S512x256 .bf16) (q : Vec Ideal S512x2048 .bf16) (b : Fin 256) (e : Fin 2048) :
    k0_pay1 acc p q (ix2 b e) = acc (ix2 b e) + ∑ k : Fin 512, p (ix2 k b) * q (ix2 k e) := by
  unfold k0_pay1
  pointwise []

theorem pay2_at (acc : Vec Ideal S2048x2048 .f32) (p q : Vec Ideal S512x2048 .bf16) (d e : Fin 2048) :
    k0_pay2 acc p q (ix2 d e) = acc (ix2 d e) + ∑ k : Fin 512, p (ix2 k d) * q (ix2 k e) := by
  unfold k0_pay2
  pointwise []

theorem pay3_at (acc : Vec Ideal S2048x2048 .f32) (x : Vec Ideal S256x2048 .bf16) (y : Vec Ideal S256x2048 .f32) (d e : Fin 2048) :
    k0_pay3 acc x y (ix2 d e) = acc (ix2 d e) + ∑ b : Fin 256, x (ix2 b d) * y (ix2 b e) := by
  unfold k0_pay3
  pointwise []

/-! ## One point's step -/

section
variable (x w w2 : Vec Ideal S256x2048 .bf16) (r : Vec Ideal S2048x2048 .bf16) (xs : Vec Ideal S1x256 .f32) (xcb : Vec Ideal S256x2048 .bf16)
  (hxs : ∀ b, xs (ix2 0 b) = sx (m2 x) (m2 r) b) (hxcb : ∀ b d, xcb (ix2 b d) = cx (m2 x) (m2 r) b d)
include hxs hxcb

theorem opsW : Ops (m2 x) (m2 w) (m2 r) (k0_pay14 xs) w (k0_pay17 w r) (k0_pay20 w r) xcb x where
  hxs b := by
    unfold k0_pay14
    pointwise []
    exact hxs b
  hw _ _ := rfl
  hsc := scaleW w r
  hwc := codedW w r
  hxcb := hxcb
  hx _ _ := rfl

theorem opsW2 : Ops (m2 x) (m2 w2) (m2 r) (k0_pay14 xs) w2 (k0_pay31 w2 r) (k0_pay34 w2 r) xcb x where
  hxs b := by
    unfold k0_pay14
    pointwise []
    exact hxs b
  hw _ _ := rfl
  hsc := scaleW2 w2 r
  hwc := codedW2 w2 r
  hxcb := hxcb
  hx _ _ := rfl

theorem lossStep_at (acc : Vec Ideal S1x256 .f32) (b : Fin 256) : lossStep x w w2 r xs xcb acc (ix2 0 b)
    = acc (ix2 0 b) + (∑ o, lossT (m2 x) (m2 w) (m2 r) o b + ∑ o, lossT (m2 x) (m2 w2) (m2 r) o b) := by
  unfold lossStep lossStep1
  rw [lossW2 (opsW2 x w2 r xs xcb hxs hxcb), lossW (opsW x w r xs xcb hxs hxcb), add_assoc]

theorem dxrStep_at (acc : Vec Ideal S256x2048 .f32) (b : Fin 256) (e : Fin 2048) : dxrStep x w w2 r xs xcb acc (ix2 b e)
    = acc (ix2 b e) + (∑ o, dxrT (m2 x) (m2 w) (m2 r) o b e + ∑ o, dxrT (m2 x) (m2 w2) (m2 r) o b e) := by
  unfold dxrStep
  rw [pay1_at, Fin.sum_univ_two_halves 256 256 rfl]
  simp only [stk_lo, stk_hi, stkN_lo, stkN_hi, dysW (opsW x w r xs xcb hxs hxcb), dysW2 (opsW2 x w2 r xs xcb hxs hxcb), codedW, codedW2]
  unfold dxrT
  rfl

theorem gStep_at (acc : Vec Ideal S2048x2048 .f32) (d e : Fin 2048) : gStep x w w2 r xs xcb acc (ix2 d e)
    = acc (ix2 d e) + (∑ o, gT (m2 x) (m2 w) (m2 r) o d e + ∑ o, gT (m2 x) (m2 w2) (m2 r) o d e) := by
  unfold gStep
  rw [pay2_at, Fin.sum_univ_two_halves 256 256 rfl]
  have h15 : ∀ o d, k0_pay15 w (ix2 o d) = m2 w o d := fun o d => by
    unfold k0_pay15
    pointwise []
    rfl
  have h29 : ∀ o d, k0_pay29 w2 (ix2 o d) = m2 w2 o d := fun o d => by
    unfold k0_pay29
    pointwise []
    rfl
  simp only [stk_lo, stk_hi, dwrW (opsW x w r xs xcb hxs hxcb), dwrW2 (opsW2 x w2 r xs xcb hxs hxcb), h15, h29]
  unfold gT
  rfl

end

end Cert.KernelIdeal.Front

end
-- ==== Proof.RefValue.lean ====
/- What the reference computes, result by result, in the words of Spec. -/
module

public import proofs.«01_k».proof.Proof.Gen.ReferenceIdeal.Read
public import proofs.«01_k».proof.Proof.Spec

@[expose] public section

set_option maxRecDepth 16384

noncomputable section

namespace Cert.ReferenceIdeal.Front

open Cert.ReferenceIdeal Cert.ReferenceIdeal.Gen Idealize.ShloMosaic Cert.ReferenceIdeal.Read Cert.Spec

variable (x0 : (⟨S2x128x2048, .bf16⟩ : BufTy).Contents (Elt Ideal)) (x1 x2 : (⟨S5632x2048, .bf16⟩ : BufTy).Contents (Elt Ideal)) (x3 : (⟨S2048x2048, .bf16⟩ : BufTy).Contents (Elt Ideal))

/-- The rows of `x` over both batches, and a weight, as matrices with plain indices. -/
def xm : Mat 256 2048 := fun b d => x0 (ix3 ⟨b.val / 128, by have := b.isLt; omega⟩ ⟨b.val % 128, by omega⟩ d)
def wm : Mat 5632 2048 := fun o d => x1 (ix2 o d)
def rm : Mat 2048 2048 := fun d e => x3 (ix2 d e)

theorem xm_rowx (s : Fin 2) (j : Fin 128) (d : Fin 2048) : xm x0 (rowx s j) d = x0 (ix3 s j d) := by
  unfold xm rowx
  congr 2
  · apply Fin.ext; have := s.isLt; have := j.isLt; dsimp only; omega
  · apply Fin.ext; have := s.isLt; have := j.isLt; dsimp only; omega

theorem x_proj (s : Fin 2) (j : Fin 128) (e : Fin 2048) : val_main_v0 x0 x3 (ix3 s j e) = proj (xm x0) (rm x3) (rowx s j) e := by
  unfold val_main_v0
  pointwise []
  unfold proj rm
  exact Finset.sum_congr rfl fun d _ => by rw [xm_rowx]

theorem x_amax (s : Fin 2) (j : Fin 128) : val_main_v4 x0 x3 (ix2 s j) = amax (proj (xm x0) (rm x3) (rowx s j)) := by
  have h0 := x_proj x0 x3
  unfold val_main_v4 val_main_v3 val_main_cst
  obtain ⟨y0, ey0⟩ : ∃ y, val_main_v0 x0 x3 = y := ⟨_, rfl⟩
  simp only [ey0] at h0 ⊢
  pointwise []
  simp only [h0]
  rfl

theorem x_scale (s : Fin 2) (j : Fin 128) : val_main_v9 x0 x3 (ix2 s j) = sx (xm x0) (rm x3) (rowx s j) := by
  have h0 := x_amax x0 x3
  unfold val_main_v9 val_main_v8 val_main_v7 val_main_v6 val_main_v5 val_main_call0_v1 val_main_call0_v0 val_main_cst_0 val_main_cst_1 val_main_cst_2
  obtain ⟨y0, ey0⟩ : ∃ y, val_main_v4 x0 x3 = y := ⟨_, rfl⟩
  simp only [ey0] at h0 ⊢
  pointwise [id_eq]
  unfold sx
  rw [h0]
  rfl

theorem x_code (s : Fin 2) (j : Fin 128) (e : Fin 2048) : val_main_v14 x0 x3 (ix3 s j e) = cx (xm x0) (rm x3) (rowx s j) e := by
  have h0 := x_proj x0 x3
  have h1 := x_scale x0 x3
  unfold val_main_v14 val_main_call2_v4 val_main_call2_v3 val_main_call2_v2 val_main_call2_v1 val_main_call2_v0 val_main_v13 val_main_v12 val_main_v11 val_main_v10 val_main_cst_3 val_main_cst_4
  obtain ⟨y0, ey0⟩ : ∃ y, val_main_v0 x0 x3 = y := ⟨_, rfl⟩
  obtain ⟨y1, ey1⟩ : ∃ y, val_main_v9 x0 x3 = y := ⟨_, rfl⟩
  simp only [ey0, ey1] at h0 h1 ⊢
  pointwise [id_eq]
  rw [h0, h1]
  rfl

theorem x_stored (s : Fin 2) (j : Fin 128) (e : Fin 2048) : val_main_v17_0 x0 x3 (ix3 s j e) = Ideal.fptosi 8 (cx (xm x0) (rm x3) (rowx s j) e) := by
  have h0 := x_code x0 x3
  unfold val_main_v17_0 val_main_v16 val_main_v15
  obtain ⟨y0, ey0⟩ : ∃ y, val_main_v14 x0 x3 = y := ⟨_, rfl⟩
  simp only [ey0] at h0 ⊢
  pointwise [id_eq]
  rw [h0]
  exact (store_of_int (cx_int _ _ _ _)).1

theorem x_back (s : Fin 2) (j : Fin 128) (e : Fin 2048) : val_main_v50 x0 x3 (ix3 s j e) = cx (xm x0) (rm x3) (rowx s j) e := by
  have h0 := x_stored x0 x3
  unfold val_main_v50 val_main_v49 val_main_v48
  obtain ⟨y0, ey0⟩ : ∃ y, val_main_v17_0 x0 x3 = y := ⟨_, rfl⟩
  simp only [ey0] at h0 ⊢
  pointwise []
  rw [h0]
  exact (store_of_int (cx_int _ _ _ _)).2

theorem w_proj (o : Fin 5632) (e : Fin 2048) : val_main_v1 x1 x3 (ix2 o e) = proj (wm x1) (rm x3) o e := by
  unfold val_main_v1
  pointwise []
  rfl

theorem w_amax (o : Fin 5632) : val_main_v19 x1 x3 (ix1 o) = amax (proj (wm x1) (rm x3) o) := by
  have h0 := w_proj x1 x3
  unfold val_main_v19 val_main_v18 val_main_cst_5
  obtain ⟨y0, ey0⟩ : ∃ y, val_main_v1 x1 x3 = y := ⟨_, rfl⟩
  simp only [ey0] at h0 ⊢
  pointwise []
  simp only [h0]
  rfl

theorem w_scale (o : Fin 5632) : val_main_v24 x1 x3 (ix1 o) = sw (wm x1) (rm x3) o := by
  have h0 := w_amax x1 x3
  unfold val_main_v24 val_main_v23 val_main_v22 val_main_v21 val_main_v20 val_main_call3_v1 val_main_call3_v0 val_main_cst_6 val_main_cst_7 val_main_cst_8
  obtain ⟨y0, ey0⟩ : ∃ y, val_main_v19 x1 x3 = y := ⟨_, rfl⟩
  simp only [ey0] at h0 ⊢
  pointwise [id_eq]
  unfold sw
  rw [h0]
  rfl

theorem w_code (o : Fin 5632) (e : Fin 2048) : val_main_v29 x1 x3 (ix2 o e) = cw (wm x1) (rm x3) o e := by
  have h0 := w_proj x1 x3
  have h1 := w_scale x1 x3
  unfold val_main_v29 val_main_call5_v4 val_main_call5_v3 val_main_call5_v2 val_main_call5_v1 val_main_call5_v0 val_main_v28 val_main_v27 val_main_v26 val_main_v25 val_main_cst_9 val_main_cst_10
  obtain ⟨y0, ey0⟩ : ∃ y, val_main_v1 x1 x3 = y := ⟨_, rfl⟩
  obtain ⟨y1, ey1⟩ : ∃ y, val_main_v24 x1 x3 = y := ⟨_, rfl⟩
  simp only [ey0, ey1] at h0 h1 ⊢
  pointwise [id_eq]
  rw [h0, h1]
  rfl

theorem w_stored (o : Fin 5632) (e : Fin 2048) : val_main_v32_0 x1 x3 (ix2 o e) = Ideal.fptosi 8 (cw (wm x1) (rm x3) o e) := by
  have h0 := w_code x1 x3
  unfold val_main_v32_0 val_main_v31 val_main_v30
  obtain ⟨y0, ey0⟩ : ∃ y, val_main_v29 x1 x3 = y := ⟨_, rfl⟩
  simp only [ey0] at h0 ⊢
  pointwise [id_eq]
  rw [h0]
  exact (store_of_int (cw_int _ _ _ _)).1

theorem w_back (o : Fin 5632) (e : Fin 2048) : val_main_v53 x1 x3 (ix2 o e) = cw (wm x1) (rm x3) o e := by
  have h0 := w_stored x1 x3
  unfold val_main_v53 val_main_v52 val_main_v51
  obtain ⟨y0, ey0⟩ : ∃ y, val_main_v32_0 x1 x3 = y := ⟨_, rfl⟩
  simp only [ey0] at h0 ⊢
  pointwise []
  rw [h0]
  exact (store_of_int (cw_int _ _ _ _)).2

theorem w2_proj (o : Fin 5632) (e : Fin 2048) : val_main_v2 x2 x3 (ix2 o e) = proj (wm x2) (rm x3) o e := by
  unfold val_main_v2
  pointwise []
  rfl

theorem w2_amax (o : Fin 5632) : val_main_v34 x2 x3 (ix1 o) = amax (proj (wm x2) (rm x3) o) := by
  have h0 := w2_proj x2 x3
  unfold val_main_v34 val_main_v33 val_main_cst_11
  obtain ⟨y0, ey0⟩ : ∃ y, val_main_v2 x2 x3 = y := ⟨_, rfl⟩
  simp only [ey0] at h0 ⊢
  pointwise []
  simp only [h0]
  rfl

theorem w2_scale (o : Fin 5632) : val_main_v39 x2 x3 (ix1 o) = sw (wm x2) (rm x3) o := by
  have h0 := w2_amax x2 x3
  unfold val_main_v39 val_main_v38 val_main_v37 val_main_v36 val_main_v35 val_main_call6_v1 val_main_call6_v0 val_main_cst_12 val_main_cst_13 val_main_cst_14
  obtain ⟨y0, ey0⟩ : ∃ y, val_main_v34 x2 x3 = y := ⟨_, rfl⟩
  simp only [ey0] at h0 ⊢
  pointwise [id_eq]
  unfold sw
  rw [h0]
  rfl

theorem w2_code (o : Fin 5632) (e : Fin 2048) : val_main_v44 x2 x3 (ix2 o e) = cw (wm x2) (rm x3) o e := by
  have h0 := w2_proj x2 x3
  have h1 := w2_scale x2 x3
  unfold val_main_v44 val_main_call8_v4 val_main_call8_v3 val_main_call8_v2 val_main_call8_v1 val_main_call8_v0 val_main_v43 val_main_v42 val_main_v41 val_main_v40 val_main_cst_15 val_main_cst_16
  obtain ⟨y0, ey0⟩ : ∃ y, val_main_v2 x2 x3 = y := ⟨_, rfl⟩
  obtain ⟨y1, ey1⟩ : ∃ y, val_main_v39 x2 x3 = y := ⟨_, rfl⟩
  simp only [ey0, ey1] at h0 h1 ⊢
  pointwise [id_eq]
  rw [h0, h1]
  rfl

theorem w2_stored (o : Fin 5632) (e : Fin 2048) : val_main_v47_0 x2 x3 (ix2 o e) = Ideal.fptosi 8 (cw (wm x2) (rm x3) o e) := by
  have h0 := w2_code x2 x3
  unfold val_main_v47_0 val_main_v46 val_main_v45
  obtain ⟨y0, ey0⟩ : ∃ y, val_main_v44 x2 x3 = y := ⟨_, rfl⟩
  simp only [ey0] at h0 ⊢
  pointwise [id_eq]
  rw [h0]
  exact (store_of_int (cw_int _ _ _ _)).1

theorem w2_back (o : Fin 5632) (e : Fin 2048) : val_main_v56 x2 x3 (ix2 o e) = cw (wm x2) (rm x3) o e := by
  have h0 := w2_stored x2 x3
  unfold val_main_v56 val_main_v55 val_main_v54
  obtain ⟨y0, ey0⟩ : ∃ y, val_main_v47_0 x2 x3 = y := ⟨_, rfl⟩
  simp only [ey0] at h0 ⊢
  pointwise []
  rw [h0]
  exact (store_of_int (cw_int _ _ _ _)).2

theorem w_err (s : Fin 2) (j : Fin 128) (o : Fin 5632) : val_main_v65 x0 x1 x3 (ix3 s j o) = err (xm x0) (wm x1) (rm x3) o (rowx s j) := by
  have h0 := x_back x0 x3
  have h1 := w_back x1 x3
  have h2 := x_scale x0 x3
  have h3 := w_scale x1 x3
  unfold val_main_v65 val_main_v64 val_main_v63 val_main_v62 val_main_v61 val_main_v60 val_main_v59 val_main_v58 val_main_v57 val_main_v32_1 val_main_v17_1
  obtain ⟨y0, ey0⟩ : ∃ y, val_main_v50 x0 x3 = y := ⟨_, rfl⟩
  obtain ⟨y1, ey1⟩ : ∃ y, val_main_v53 x1 x3 = y := ⟨_, rfl⟩
  obtain ⟨y2, ey2⟩ : ∃ y, val_main_v9 x0 x3 = y := ⟨_, rfl⟩
  obtain ⟨y3, ey3⟩ : ∃ y, val_main_v24 x1 x3 = y := ⟨_, rfl⟩
  simp only [ey0, ey1, ey2, ey3] at h0 h1 h2 h3 ⊢
  pointwise [id_eq]
  simp only [h0, h1, h2, h3]
  unfold err wm
  simp only [xm_rowx]
  congr 1
  · congr 2
    exact Finset.sum_congr rfl fun d _ => mul_comm _ _
  · exact Finset.sum_congr rfl fun d _ => mul_comm _ _

theorem w_dy (s : Fin 2) (j : Fin 128) (o : Fin 5632) : val_main_v87 x0 x1 x3 (ix3 s j o) = dy (xm x0) (wm x1) (rm x3) o (rowx s j) := by
  have h0 := w_err x0 x1 x3
  unfold val_main_v87 val_main_v86 val_main_cst_23
  obtain ⟨y0, ey0⟩ : ∃ y, val_main_v65 x0 x1 x3 = y := ⟨_, rfl⟩
  simp only [ey0] at h0 ⊢
  pointwise []
  rw [h0]
  rfl

theorem w_dxr (s : Fin 2) (j : Fin 128) (e : Fin 2048) : val_main_v94 x0 x1 x3 (ix3 s j e) = ∑ o, dxrT (xm x0) (wm x1) (rm x3) o (rowx s j) e := by
  have h0 := w_dy x0 x1 x3
  have h1 := w_scale x1 x3
  have h2 := w_back x1 x3
  unfold val_main_v94 val_main_v93 val_main_v92 val_main_v91 val_main_v90 val_main_v32_1
  obtain ⟨y0, ey0⟩ : ∃ y, val_main_v87 x0 x1 x3 = y := ⟨_, rfl⟩
  obtain ⟨y1, ey1⟩ : ∃ y, val_main_v24 x1 x3 = y := ⟨_, rfl⟩
  obtain ⟨y2, ey2⟩ : ∃ y, val_main_v53 x1 x3 = y := ⟨_, rfl⟩
  simp only [ey0, ey1, ey2] at h0 h1 h2 ⊢
  pointwise [id_eq]
  simp only [h0, h1, h2]
  rfl

theorem w_dwr (o : Fin 5632) (e : Fin 2048) : val_main_v105 x0 x1 x3 (ix2 o e) = dwr (xm x0) (wm x1) (rm x3) o e := by
  have h0 := w_dy x0 x1 x3
  have h1 := x_scale x0 x3
  have h2 := x_back x0 x3
  unfold val_main_v105 val_main_v104 val_main_v103 val_main_v102 val_main_v101 val_main_v17_1
  obtain ⟨y0, ey0⟩ : ∃ y, val_main_v87 x0 x1 x3 = y := ⟨_, rfl⟩
  obtain ⟨y1, ey1⟩ : ∃ y, val_main_v9 x0 x3 = y := ⟨_, rfl⟩
  obtain ⟨y2, ey2⟩ : ∃ y, val_main_v50 x0 x3 = y := ⟨_, rfl⟩
  simp only [ey0, ey1, ey2] at h0 h1 h2 ⊢
  pointwise [id_eq]
  simp only [h0, h1, h2]
  exact sum_rowx fun b => dy (xm x0) (wm x1) (rm x3) o b * sx (xm x0) (rm x3) b * cx (xm x0) (rm x3) b e

theorem w2_err (s : Fin 2) (j : Fin 128) (o : Fin 5632) : val_main_v74 x0 x2 x3 (ix3 s j o) = err (xm x0) (wm x2) (rm x3) o (rowx s j) := by
  have h0 := x_back x0 x3
  have h1 := w2_back x2 x3
  have h2 := x_scale x0 x3
  have h3 := w2_scale x2 x3
  unfold val_main_v74 val_main_v73 val_main_v72 val_main_v71 val_main_v70 val_main_v69 val_main_v68 val_main_v67 val_main_v66 val_main_v47_1 val_main_v17_1
  obtain ⟨y0, ey0⟩ : ∃ y, val_main_v50 x0 x3 = y := ⟨_, rfl⟩
  obtain ⟨y1, ey1⟩ : ∃ y, val_main_v56 x2 x3 = y := ⟨_, rfl⟩
  obtain ⟨y2, ey2⟩ : ∃ y, val_main_v9 x0 x3 = y := ⟨_, rfl⟩
  obtain ⟨y3, ey3⟩ : ∃ y, val_main_v39 x2 x3 = y := ⟨_, rfl⟩
  simp only [ey0, ey1, ey2, ey3] at h0 h1 h2 h3 ⊢
  pointwise [id_eq]
  simp only [h0, h1, h2, h3]
  unfold err wm
  simp only [xm_rowx]
  congr 1
  · congr 2
    exact Finset.sum_congr rfl fun d _ => mul_comm _ _
  · exact Finset.sum_congr rfl fun d _ => mul_comm _ _

theorem w2_dy (s : Fin 2) (j : Fin 128) (o : Fin 5632) : val_main_v89 x0 x2 x3 (ix3 s j o) = dy (xm x0) (wm x2) (rm x3) o (rowx s j) := by
  have h0 := w2_err x0 x2 x3
  unfold val_main_v89 val_main_v88 val_main_cst_24
  obtain ⟨y0, ey0⟩ : ∃ y, val_main_v74 x0 x2 x3 = y := ⟨_, rfl⟩
  simp only [ey0] at h0 ⊢
  pointwise []
  rw [h0]
  rfl

theorem w2_dxr (s : Fin 2) (j : Fin 128) (e : Fin 2048) : val_main_v99 x0 x2 x3 (ix3 s j e) = ∑ o, dxrT (xm x0) (wm x2) (rm x3) o (rowx s j) e := by
  have h0 := w2_dy x0 x2 x3
  have h1 := w2_scale x2 x3
  have h2 := w2_back x2 x3
  unfold val_main_v99 val_main_v98 val_main_v97 val_main_v96 val_main_v95 val_main_v47_1
  obtain ⟨y0, ey0⟩ : ∃ y, val_main_v89 x0 x2 x3 = y := ⟨_, rfl⟩
  obtain ⟨y1, ey1⟩ : ∃ y, val_main_v39 x2 x3 = y := ⟨_, rfl⟩
  obtain ⟨y2, ey2⟩ : ∃ y, val_main_v56 x2 x3 = y := ⟨_, rfl⟩
  simp only [ey0, ey1, ey2] at h0 h1 h2 ⊢
  pointwise [id_eq]
  simp only [h0, h1, h2]
  rfl

theorem w2_dwr (o : Fin 5632) (e : Fin 2048) : val_main_v110 x0 x2 x3 (ix2 o e) = dwr (xm x0) (wm x2) (rm x3) o e := by
  have h0 := w2_dy x0 x2 x3
  have h1 := x_scale x0 x3
  have h2 := x_back x0 x3
  unfold val_main_v110 val_main_v109 val_main_v108 val_main_v107 val_main_v106 val_main_v17_1
  obtain ⟨y0, ey0⟩ : ∃ y, val_main_v89 x0 x2 x3 = y := ⟨_, rfl⟩
  obtain ⟨y1, ey1⟩ : ∃ y, val_main_v9 x0 x3 = y := ⟨_, rfl⟩
  obtain ⟨y2, ey2⟩ : ∃ y, val_main_v50 x0 x3 = y := ⟨_, rfl⟩
  simp only [ey0, ey1, ey2] at h0 h1 h2 ⊢
  pointwise [id_eq]
  simp only [h0, h1, h2]
  exact sum_rowx fun b => dy (xm x0) (wm x2) (rm x3) o b * sx (xm x0) (rm x3) b * cx (xm x0) (rm x3) b e

theorem loss_at (s : Fin 2) (j : Fin 128) : val_main_v83 x0 x1 x2 x3 (ix2 s j) = tokV (xm x0) (wm x1) (wm x2) (rm x3) (rowx s j) := by
  have h0 := w_err x0 x1 x3
  have h1 := w2_err x0 x2 x3
  unfold val_main_v83 val_main_v82 val_main_v81 val_main_v80 val_main_v79 val_main_v78 val_main_v77 val_main_v76 val_main_v75 val_main_cst_17 val_main_cst_18 val_main_cst_19 val_main_cst_20
  obtain ⟨y0, ey0⟩ : ∃ y, val_main_v65 x0 x1 x3 = y := ⟨_, rfl⟩
  obtain ⟨y1, ey1⟩ : ∃ y, val_main_v74 x0 x2 x3 = y := ⟨_, rfl⟩
  simp only [ey0, ey1] at h0 h1 ⊢
  pointwise []
  simp only [h0, h1]
  exact tokV_eq (xm x0) (wm x1) (wm x2) (rm x3) (rowx s j)

theorem dxr_at (s : Fin 2) (j : Fin 128) (e : Fin 2048) : val_main_v100 x0 x1 x2 x3 (ix3 s j e) = dxrV (xm x0) (wm x1) (wm x2) (rm x3) (rowx s j) e := by
  have h0 := w_dxr x0 x1 x3
  have h1 := w2_dxr x0 x2 x3
  unfold val_main_v100
  obtain ⟨y0, ey0⟩ : ∃ y, val_main_v94 x0 x1 x3 = y := ⟨_, rfl⟩
  obtain ⟨y1, ey1⟩ : ∃ y, val_main_v99 x0 x2 x3 = y := ⟨_, rfl⟩
  simp only [ey0, ey1] at h0 h1 ⊢
  pointwise []
  rw [h0, h1]
  rfl

theorem g_at (d e : Fin 2048) : val_main_v118 x0 x1 x2 x3 (ix2 d e) = gV (xm x0) (wm x1) (wm x2) (rm x3) d e := by
  have h0 := w_dwr x0 x1 x3
  have h1 := w2_dwr x0 x2 x3
  have h2 := dxr_at x0 x1 x2 x3
  unfold val_main_v118 val_main_v117 val_main_v116 val_main_v115 val_main_v114 val_main_v113 val_main_v112 val_main_v111
  obtain ⟨y0, ey0⟩ : ∃ y, val_main_v105 x0 x1 x3 = y := ⟨_, rfl⟩
  obtain ⟨y1, ey1⟩ : ∃ y, val_main_v110 x0 x2 x3 = y := ⟨_, rfl⟩
  obtain ⟨y2, ey2⟩ : ∃ y, val_main_v100 x0 x1 x2 x3 = y := ⟨_, rfl⟩
  simp only [ey0, ey1, ey2] at h0 h1 h2 ⊢
  pointwise []
  simp only [h0, h1, h2]
  have hs := sum_rowx fun b => xm x0 b d * dxrV (xm x0) (wm x1) (wm x2) (rm x3) b e
  simp only [xm_rowx] at hs
  exact congrArg₂ (· + ·) (congrArg₂ (· + ·) hs (Finset.sum_congr rfl fun o _ => rfl)) (Finset.sum_congr rfl fun o _ => rfl)

/-! ## The results, at an index -/

theorem out1 (i : S_.Idx) : val_main_v85 x0 x1 x2 x3 i = meanV (xm x0) (wm x1) (wm x2) (rm x3) := by
  have h0 := loss_at x0 x1 x2 x3
  unfold val_main_v85 val_main_v84 val_main_cst_21 val_main_cst_22
  obtain ⟨y0, ey0⟩ : ∃ y, val_main_v83 x0 x1 x2 x3 = y := ⟨_, rfl⟩
  simp only [ey0] at h0 ⊢
  pointwise []
  simp only [h0]
  rw [sum_rowx fun b => tokV (xm x0) (wm x1) (wm x2) (rm x3) b]
  rfl

theorem out4 (s : Fin 2) (j : Fin 128) : val_main_v17_1 x0 x3 (ix2 s j) = sx (xm x0) (rm x3) (rowx s j) := by
  have h0 := x_scale x0 x3
  unfold val_main_v17_1
  obtain ⟨y0, ey0⟩ : ∃ y, val_main_v9 x0 x3 = y := ⟨_, rfl⟩
  simp only [ey0] at h0 ⊢
  exact h0 s j

theorem out6 (o : Fin 5632) : val_main_v32_1 x1 x3 (ix1 o) = sw (wm x1) (rm x3) o := by
  have h0 := w_scale x1 x3
  unfold val_main_v32_1
  obtain ⟨y0, ey0⟩ : ∃ y, val_main_v24 x1 x3 = y := ⟨_, rfl⟩
  simp only [ey0] at h0 ⊢
  exact h0 o

theorem out8 (o : Fin 5632) : val_main_v47_1 x2 x3 (ix1 o) = sw (wm x2) (rm x3) o := by
  have h0 := w2_scale x2 x3
  unfold val_main_v47_1
  obtain ⟨y0, ey0⟩ : ∃ y, val_main_v39 x2 x3 = y := ⟨_, rfl⟩
  simp only [ey0] at h0 ⊢
  exact h0 o

end Cert.ReferenceIdeal.Front

end
-- ==== Proof.IdBlocks.lean ====
/- What each block of the operands of the front call holds, in the words of Spec. -/
module

public import proofs.«01_k».proof.Proof.IdFrame
public import proofs.«01_k».proof.Proof.IdPay
public import proofs.«01_k».proof.Proof.RefValue

@[expose] public section

set_option maxRecDepth 16384

noncomputable section

namespace Cert.KernelIdeal.Front

open Cert.KernelIdeal Cert.KernelIdeal.Gen Idealize.ShloMosaic Idealize.ShloMosaic.TcCoe Cert.Spec

variable (m : (ℓ : Loc nD τ sig) → Buf (Elt Ideal) ℓ) (c : Dev nD)

/-- The four arguments as matrices. -/
abbrev aX : Mat 256 2048 := Cert.ReferenceIdeal.Front.xm (m ((c.tc : Thread nD τ).loc main_arg0))
abbrev aW : Mat 5632 2048 := Cert.ReferenceIdeal.Front.wm (m ((c.tc : Thread nD τ).loc main_arg1))
abbrev aW2 : Mat 5632 2048 := Cert.ReferenceIdeal.Front.wm (m ((c.tc : Thread nD τ).loc main_arg2))
abbrev aR : Mat 2048 2048 := Cert.ReferenceIdeal.Front.rm (m ((c.tc : Thread nD τ).loc main_arg3))

/-- Block `t` of a weight. -/
def blkOf (W : Mat 5632 2048) (t : Fin 22) : Mat 256 2048 := fun o d => W (row t o) d

theorem idx : ∀ t : Fin cfg0.N, win0_0.index t = ![0, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![0, t.val]
    ∧ win0_10.index t = ![t.val, 0] ∧ win0_11.index t = ![0, t.val] :=
  (by decide +kernel : ∀ t : Fin grid0.N, _)

theorem bx_eq (t : Fin cfg0.N) : m2 (bx m c t) = aX m c := by
  funext b d
  unfold m2 aX Cert.ReferenceIdeal.Front.xm bx
  blk_simp [iblk, idx t]
  change StableHlo.after hostOps0 (fun b => m (c, b)) (Proc.devRef .tc main_v0) _ = _
  entry_read
  pointwise []
  blk_ext [idx t]

theorem bw_eq (t : Fin cfg0.N) : m2 (bw m c t) = blkOf (aW m c) ⟨t.val, lt_of_lt_of_eq t.isLt N_0⟩ := by
  funext b d
  unfold m2 blkOf aW Cert.ReferenceIdeal.Front.wm row bw
  blk_ext [iblk, V, idx t]

theorem bw2_eq (t : Fin cfg0.N) : m2 (bw2 m c t) = blkOf (aW2 m c) ⟨t.val, lt_of_lt_of_eq t.isLt N_0⟩ := by
  funext b d
  unfold m2 blkOf aW2 Cert.ReferenceIdeal.Front.wm row bw2
  blk_ext [iblk, V, idx t]

theorem br_eq (t : Fin cfg0.N) : m2 (br m c t) = aR m c := by
  funext b d
  unfold m2 aR Cert.ReferenceIdeal.Front.rm br
  blk_ext [iblk, V, idx t]

/-! ## A block's rows are rows of the weight -/

section
variable (X : Mat 256 2048) (W : Mat 5632 2048) (R : Mat 2048 2048) (t : Fin 22) (k b : Fin 256) (d e : Fin 2048)

theorem proj_blk : proj (blkOf W t) R k = proj W R (row t k) := rfl
theorem sw_blk : sw (blkOf W t) R k = sw W R (row t k) := by unfold sw; rw [proj_blk]
theorem cw_blk : cw (blkOf W t) R k d = cw W R (row t k) d := by unfold cw; rw [proj_blk]
theorem err_blk : err X (blkOf W t) R k b = err X W R (row t k) b := by
  unfold err; simp only [sw_blk, cw_blk]; rfl
theorem dy_blk : dy X (blkOf W t) R k b = dy X W R (row t k) b := by unfold dy; rw [err_blk]
theorem dwr_blk : dwr X (blkOf W t) R k e = dwr X W R (row t k) e := by unfold dwr; simp only [dy_blk]
theorem lossT_blk : lossT X (blkOf W t) R k b = lossT X W R (row t k) b := by unfold lossT; rw [err_blk]
theorem dxrT_blk : dxrT X (blkOf W t) R k b e = dxrT X W R (row t k) b e := by unfold dxrT; rw [dy_blk, sw_blk, cw_blk]
theorem gT_blk : gT X (blkOf W t) R k d e = gT X W R (row t k) d e := by unfold gT; rw [dwr_blk]; rfl
end

/-- What block `p` of both weights adds. -/
def part (f g : Fin 5632 → EReal) (p : ℕ) : EReal :=
  if h : p < 22 then ∑ k, f (row ⟨p, h⟩ k) + ∑ k, g (row ⟨p, h⟩ k) else 0

theorem part_lt (f g : Fin 5632 → EReal) (p : ℕ) (h : p < 22) :
    part f g p = ∑ k, f (row ⟨p, h⟩ k) + ∑ k, g (row ⟨p, h⟩ k) := dif_pos h

theorem sum_part (f g : Fin 5632 → EReal) : ∑ p ∈ Finset.range 22, part f g p = ∑ o, f o + ∑ o, g o := by
  rw [Finset.sum_range, ← sum_row f, ← sum_row g, ← Finset.sum_add_distrib]
  exact Finset.sum_congr rfl fun p _ => part_lt f g p.val p.isLt

theorem zero10 (b : Fin 256) : k0_pay10 (F := Ideal) (ix2 0 b) = 0 := by
  unfold k0_pay10
  pointwise []
theorem zero12 (b : Fin 256) (e : Fin 2048) : k0_pay12 (F := Ideal) k0_pay11 (ix2 b e) = 0 := by
  unfold k0_pay12 k0_pay11
  pointwise []
theorem zero13 (d e : Fin 2048) : k0_pay13 (F := Ideal) (ix2 d e) = 0 := by
  unfold k0_pay13
  pointwise []

end Cert.KernelIdeal.Front

end
-- ==== Proof.IdState.lean ====
/- What the accumulators of the front call hold after each grid point, in the words of Spec. -/
module

public import proofs.«01_k».proof.Proof.IdBlocks

@[expose] public section

set_option maxRecDepth 16384

noncomputable section

namespace Cert.KernelIdeal.Front

open Cert.KernelIdeal Cert.KernelIdeal.Gen Idealize.ShloMosaic Idealize.ShloMosaic.TcCoe Cert.Spec

variable (m : (ℓ : Loc nD τ sig) → Buf (Elt Ideal) ℓ) (c : Dev nD)

abbrev lossP (b : Fin 256) (p : ℕ) : EReal :=
  part (fun o => lossT (aX m c) (aW m c) (aR m c) o b) (fun o => lossT (aX m c) (aW2 m c) (aR m c) o b) p
abbrev dxrP (b : Fin 256) (e : Fin 2048) (p : ℕ) : EReal :=
  part (fun o => dxrT (aX m c) (aW m c) (aR m c) o b e) (fun o => dxrT (aX m c) (aW2 m c) (aR m c) o b e) p
abbrev gP (d e : Fin 2048) (p : ℕ) : EReal :=
  part (fun o => gT (aX m c) (aW m c) (aR m c) o d e) (fun o => gT (aX m c) (aW2 m c) (aR m c) o d e) p

/-- What the state holds after point `n`, in the words of Spec. -/
structure Holds (s : St Ideal) (n : ℕ) : Prop where
  xs : ∀ b, s.xs (ix2 0 b) = sx (aX m c) (aR m c) b
  xcb : ∀ b d, s.xcb (ix2 b d) = cx (aX m c) (aR m c) b d
  xc : ∀ b d, s.xc (ix2 b d) = Ideal.fptosi 8 (cx (aX m c) (aR m c) b d)
  l : ∀ b, s.l (ix2 0 b) = ∑ p ∈ Finset.range (n + 1), lossP m c b p
  dxr : ∀ b e, s.dxr (ix2 b e) = ∑ p ∈ Finset.range (n + 1), dxrP m c b e p
  g : ∀ d e, s.g (ix2 d e) = ∑ p ∈ Finset.range (n + 1), gP m c d e p

theorem loss_step (t : Fin cfg0.N) (xs : Vec Ideal S1x256 .f32) (xcb : Vec Ideal S256x2048 .bf16)
    (hxs : ∀ b, xs (ix2 0 b) = sx (aX m c) (aR m c) b) (hxcb : ∀ b d, xcb (ix2 b d) = cx (aX m c) (aR m c) b d)
    (acc : Vec Ideal S1x256 .f32) (b : Fin 256) :
    lossStep (bx m c t) (bw m c t) (bw2 m c t) (br m c t) xs xcb acc (ix2 0 b) = acc (ix2 0 b) + lossP m c b t.val := by
  rw [lossStep_at _ _ _ _ _ _ (by rw [bx_eq, br_eq]; exact hxs) (by rw [bx_eq, br_eq]; exact hxcb), bx_eq, bw_eq, bw2_eq, br_eq,
    lossP, part_lt _ _ _ (lt_of_lt_of_eq t.isLt N_0)]
  simp only [lossT_blk]

theorem dxr_step (t : Fin cfg0.N) (xs : Vec Ideal S1x256 .f32) (xcb : Vec Ideal S256x2048 .bf16)
    (hxs : ∀ b, xs (ix2 0 b) = sx (aX m c) (aR m c) b) (hxcb : ∀ b d, xcb (ix2 b d) = cx (aX m c) (aR m c) b d)
    (acc : Vec Ideal S256x2048 .f32) (b : Fin 256) (e : Fin 2048) :
    dxrStep (bx m c t) (bw m c t) (bw2 m c t) (br m c t) xs xcb acc (ix2 b e) = acc (ix2 b e) + dxrP m c b e t.val := by
  rw [dxrStep_at _ _ _ _ _ _ (by rw [bx_eq, br_eq]; exact hxs) (by rw [bx_eq, br_eq]; exact hxcb), bx_eq, bw_eq, bw2_eq, br_eq,
    dxrP, part_lt _ _ _ (lt_of_lt_of_eq t.isLt N_0)]
  simp only [dxrT_blk]

theorem g_step (t : Fin cfg0.N) (xs : Vec Ideal S1x256 .f32) (xcb : Vec Ideal S256x2048 .bf16)
    (hxs : ∀ b, xs (ix2 0 b) = sx (aX m c) (aR m c) b) (hxcb : ∀ b d, xcb (ix2 b d) = cx (aX m c) (aR m c) b d)
    (acc : Vec Ideal S2048x2048 .f32) (d e : Fin 2048) :
    gStep (bx m c t) (bw m c t) (bw2 m c t) (br m c t) xs xcb acc (ix2 d e) = acc (ix2 d e) + gP m c d e t.val := by
  rw [gStep_at _ _ _ _ _ _ (by rw [bx_eq, br_eq]; exact hxs) (by rw [bx_eq, br_eq]; exact hxcb), bx_eq, bw_eq, bw2_eq, br_eq,
    gP, part_lt _ _ _ (lt_of_lt_of_eq t.isLt N_0)]
  simp only [gT_blk]

theorem rowX_arg (t : Fin cfg0.N) (b : Fin 256) : k0_pay9 (bx m c t) (br m c t) (ix2 0 b) = sx (aX m c) (aR m c) b := by
  rw [rowX, bx_eq, br_eq]
theorem codedX_arg (t : Fin cfg0.N) (b : Fin 256) (d : Fin 2048) : k0_pay8 (bx m c t) (br m c t) (ix2 b d) = cx (aX m c) (aR m c) b d := by
  rw [codedX, bx_eq, br_eq]

theorem holds_first (t : Fin cfg0.N) (h : t.val = 0) : Holds m c (st m c t.val t.isLt) t.val := by
  have hs := rowX_arg m c t
  have hc := codedX_arg m c t
  rw [st_first m c t h]
  refine ⟨fun b => ?_, fun b d => ?_, fun b d => ?_, fun b => ?_, fun b e => ?_, fun d e => ?_⟩
  · dsimp only; rw [hs]
  · dsimp only; rw [hc]
  · dsimp only; rw [storedX, bx_eq, br_eq]
  · dsimp only; rw [loss_step m c t _ _ hs hc, zero10, zero_add, h, Finset.sum_range_one]
  · dsimp only; rw [dxr_step m c t _ _ hs hc, zero12, zero_add, h, Finset.sum_range_one]
  · dsimp only; rw [g_step m c t _ _ hs hc, zero13, zero_add, h, Finset.sum_range_one]

theorem holds_next (t : Fin cfg0.N) (h : t.val ≠ 0) (H : Holds m c (pst m c t) (t.val - 1)) :
    Holds m c (st m c t.val t.isLt) t.val := by
  have e : t.val - 1 + 1 = t.val := by omega
  rw [st_next m c t h]
  refine ⟨H.xs, H.xcb, H.xc, fun b => ?_, fun b e' => ?_, fun d e' => ?_⟩
  · dsimp only; rw [loss_step m c t _ _ H.xs H.xcb, H.l, e, ← Finset.sum_range_succ]
  · dsimp only; rw [dxr_step m c t _ _ H.xs H.xcb, H.dxr, e, ← Finset.sum_range_succ]
  · dsimp only; rw [g_step m c t _ _ H.xs H.xcb, H.g, e, ← Finset.sum_range_succ]

theorem holds : ∀ (n : ℕ) (h : n < cfg0.N), Holds m c (st m c n h) n
  | 0, h => holds_first m c ⟨0, h⟩ rfl
  | n + 1, h => holds_next m c ⟨n + 1, h⟩ (Nat.succ_ne_zero n) (holds n (Nat.lt_of_succ_lt h))

end Cert.KernelIdeal.Front

end
-- ==== Proof.IdValue.lean ====
/- What the result arrays of the front call hold after the last grid point, in the words of Spec. -/
module

public import proofs.«01_k».proof.Proof.IdState

@[expose] public section

set_option maxRecDepth 16384

noncomputable section

namespace Cert.KernelIdeal.Front

open Cert.KernelIdeal Cert.KernelIdeal.Gen Idealize.ShloMosaic Idealize.ShloMosaic.TcCoe Cert.Spec

variable (m : (ℓ : Loc nD τ sig) → Buf (Elt Ideal) ℓ) (c : Dev nD)

/-! ## What the arrays hold after the run -/

/-- The last grid point. -/
def tl : Fin cfg0.N := ⟨21, by rw [show cfg0.N = 22 from N_0]; norm_num⟩

theorem l_last (b : Fin 256) : (st m c tl.val tl.isLt).l (ix2 0 b) = lossV (aX m c) (aW m c) (aW2 m c) (aR m c) b := by
  rw [(holds m c tl.val tl.isLt).l]
  exact sum_part _ _

theorem dxr_last (b : Fin 256) (e : Fin 2048) : (st m c tl.val tl.isLt).dxr (ix2 b e) = dxrV (aX m c) (aW m c) (aW2 m c) (aR m c) b e := by
  rw [(holds m c tl.val tl.isLt).dxr]
  exact sum_part _ _

theorem g_last (d e : Fin 2048) : gOut m c tl (ix2 d e) = gV (aX m c) (aW m c) (aW2 m c) (aR m c) d e := by
  unfold gOut
  rw [if_pos (show tl.val = 21 from rfl), pay3_at, (holds m c tl.val tl.isLt).g]
  refine (congrArg₂ (· + ·) (sum_part _ _) (Finset.sum_congr rfl fun b _ =>
    congrArg₂ (· * ·) (congrFun (congrFun (bx_eq m c tl) b) d) (dxr_last m c b e))).trans ?_
  unfold gV
  rw [add_comm, ← add_assoc]

theorem arr4 (G : Fin 2048 → Fin 2048 → EReal) (hG : ∀ a b, gOut m c tl (ix2 a b) = G a b) : (dats m 0 c).arrAt 4 cfg0.N = fun i => G (i 0) (i 1) := by
  refine (dats m 0 c).arrAt_eq_of_after_last 4 tl (by decide +kernel) _ fun j => ?_
  rw [after0_4]
  obtain ⟨y, ey⟩ : ∃ y, gOut m c tl = y := ⟨_, rfl⟩
  rw [ey] at hG ⊢
  blk_simp
  exact (congrArg y (eq_ix2 (n0 := 2048) (n1 := 2048) j)).trans (hG (j 0) (j 1))

theorem arr5 (G : Fin 1 → Fin 256 → EReal) (hG : ∀ a b, (st m c tl.val tl.isLt).l (ix2 a b) = G a b) : (dats m 0 c).arrAt 5 cfg0.N = fun i => G (i 0) (i 1) := by
  refine (dats m 0 c).arrAt_eq_of_after_last 5 tl (by decide +kernel) _ fun j => ?_
  rw [after0_5]
  obtain ⟨y, ey⟩ : ∃ y, (st m c tl.val tl.isLt).l = y := ⟨_, rfl⟩
  rw [ey] at hG ⊢
  blk_simp
  exact (congrArg y (eq_ix2 (n0 := 1) (n1 := 256) j)).trans (hG (j 0) (j 1))

theorem arr6 (G : Fin 256 → Fin 2048 → BitVec 8) (hG : ∀ a b, (st m c tl.val tl.isLt).xc (ix2 a b) = G a b) : (dats m 0 c).arrAt 6 cfg0.N = fun i => G (i 0) (i 1) := by
  refine (dats m 0 c).arrAt_eq_of_after_last 6 tl (by decide +kernel) _ fun j => ?_
  rw [after0_6]
  obtain ⟨y, ey⟩ : ∃ y, (st m c tl.val tl.isLt).xc = y := ⟨_, rfl⟩
  rw [ey] at hG ⊢
  blk_simp
  exact (congrArg y (eq_ix2 (n0 := 256) (n1 := 2048) j)).trans (hG (j 0) (j 1))

theorem arr7 (G : Fin 1 → Fin 256 → EReal) (hG : ∀ a b, (st m c tl.val tl.isLt).xs (ix2 a b) = G a b) : (dats m 0 c).arrAt 7 cfg0.N = fun i => G (i 0) (i 1) := by
  refine (dats m 0 c).arrAt_eq_of_after_last 7 tl (by decide +kernel) _ fun j => ?_
  rw [after0_7]
  obtain ⟨y, ey⟩ : ∃ y, (st m c tl.val tl.isLt).xs = y := ⟨_, rfl⟩
  rw [ey] at hG ⊢
  blk_simp
  exact (congrArg y (eq_ix2 (n0 := 1) (n1 := 256) j)).trans (hG (j 0) (j 1))

theorem arr8 (G : Fin 5632 → Fin 2048 → BitVec 8)
    (hG : ∀ (t : Fin cfg0.N) a b, k0_pay19 (bw m c t) (br m c t) (ix2 a b) = G (row ⟨t.val, lt_of_lt_of_eq t.isLt N_0⟩ a) b) :
    (dats m 0 c).arrAt 8 cfg0.N = fun i => G (i 0) (i 1) := by
  refine (dats m 0 c).arrAt_eq_of_covers 8 _ (by decide +kernel) fun t hf y => ?_
  have hG := hG t
  rw [after0_8]
  obtain ⟨z, ez⟩ : ∃ z, k0_pay19 (bw m c t) (br m c t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row; blk_simp [idx t]; exact (show 256 * t.val + (y 0).val = t.val * 256 + (y 0).val by omega)
  · blk_simp [idx t]; try omega

theorem arr9 (G : Fin 1 → Fin 5632 → EReal)
    (hG : ∀ (t : Fin cfg0.N) a b, k0_pay22 (k0_pay21 (bw m c t) (br m c t)) (ix2 a b) = G a (row ⟨t.val, lt_of_lt_of_eq t.isLt N_0⟩ b)) :
    (dats m 0 c).arrAt 9 cfg0.N = fun i => G (i 0) (i 1) := by
  refine (dats m 0 c).arrAt_eq_of_covers 9 _ (by decide +kernel) fun t hf y => ?_
  have hG := hG t
  rw [after0_9]
  obtain ⟨z, ez⟩ : ∃ z, k0_pay22 (k0_pay21 (bw m c t) (br m c t)) = z := ⟨_, rfl⟩
  rw [ez] at hG ⊢
  blk_simp
  refine ((congrArg z (eq_ix2 (n0 := 1) (n1 := 256) y)).trans (hG (y 0) (y 1))).trans (congrArg₂ G (Fin.ext ?_) (Fin.ext ?_))
  · blk_simp [idx t]; try omega
  · unfold row; blk_simp [idx t]; exact (show 256 * t.val + (y 1).val = t.val * 256 + (y 1).val by omega)

theorem arr10 (G : Fin 5632 → Fin 2048 → BitVec 8)
    (hG : ∀ (t : Fin cfg0.N) a b, k0_pay33 (bw2 m c t) (br m c t) (ix2 a b) = G (row ⟨t.val, lt_of_lt_of_eq t.isLt N_0⟩ a) b) :
    (dats m 0 c).arrAt 10 cfg0.N = fun i => G (i 0) (i 1) := by
  refine (dats m 0 c).arrAt_eq_of_covers 10 _ (by decide +kernel) fun t hf y => ?_
  have hG := hG t
  rw [after0_10]
  obtain ⟨z, ez⟩ : ∃ z, k0_pay33 (bw2 m c t) (br m c t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row; blk_simp [idx t]; exact (show 256 * t.val + (y 0).val = t.val * 256 + (y 0).val by omega)
  · blk_simp [idx t]; try omega

theorem arr11 (G : Fin 1 → Fin 5632 → EReal)
    (hG : ∀ (t : Fin cfg0.N) a b, k0_pay35 (bw2 m c t) (br m c t) (ix2 a b) = G a (row ⟨t.val, lt_of_lt_of_eq t.isLt N_0⟩ b)) :
    (dats m 0 c).arrAt 11 cfg0.N = fun i => G (i 0) (i 1) := by
  refine (dats m 0 c).arrAt_eq_of_covers 11 _ (by decide +kernel) fun t hf y => ?_
  have hG := hG t
  rw [after0_11]
  obtain ⟨z, ez⟩ : ∃ z, k0_pay35 (bw2 m c t) (br m c t) = z := ⟨_, rfl⟩
  rw [ez] at hG ⊢
  blk_simp
  refine ((congrArg z (eq_ix2 (n0 := 1) (n1 := 256) y)).trans (hG (y 0) (y 1))).trans (congrArg₂ G (Fin.ext ?_) (Fin.ext ?_))
  · blk_simp [idx t]; try omega
  · unfold row; blk_simp [idx t]; exact (show 256 * t.val + (y 1).val = t.val * 256 + (y 1).val by omega)

/-! ## The eight results in the words of Spec -/

theorem xs_at (b : Fin 256) : (st m c tl.val tl.isLt).xs (ix2 0 b) = sx (aX m c) (aR m c) b := (holds m c tl.val tl.isLt).xs b
theorem xc_at (b : Fin 256) (e : Fin 2048) : (st m c tl.val tl.isLt).xc (ix2 b e) = Ideal.fptosi 8 (cx (aX m c) (aR m c) b e) :=
  (holds m c tl.val tl.isLt).xc b e

theorem final4 : (dats m 0 c).arrAt 4 cfg0.N = fun i => gV (aX m c) (aW m c) (aW2 m c) (aR m c) (i 0) (i 1) :=
  arr4 m c _ fun a b => g_last m c a b

theorem final5 : (dats m 0 c).arrAt 5 cfg0.N = fun i => lossV (aX m c) (aW m c) (aW2 m c) (aR m c) (i 1) :=
  arr5 m c (fun _ b => lossV (aX m c) (aW m c) (aW2 m c) (aR m c) b) fun a b => by
    rw [Subsingleton.elim a 0]; exact l_last m c b

theorem final6 : (dats m 0 c).arrAt 6 cfg0.N = fun i => Ideal.fptosi 8 (cx (aX m c) (aR m c) (i 0) (i 1)) :=
  arr6 m c (fun a b => Ideal.fptosi 8 (cx (aX m c) (aR m c) a b)) fun a b => xc_at m c a b

theorem final7 : (dats m 0 c).arrAt 7 cfg0.N = fun i => sx (aX m c) (aR m c) (i 1) :=
  arr7 m c (fun _ b => sx (aX m c) (aR m c) b) fun a b => by
    rw [Subsingleton.elim a 0]; exact xs_at m c b

theorem final8 : (dats m 0 c).arrAt 8 cfg0.N = fun i => Ideal.fptosi 8 (cw (aW m c) (aR m c) (i 0) (i 1)) :=
  arr8 m c (fun a b => Ideal.fptosi 8 (cw (aW m c) (aR m c) a b)) fun t a b => by
    rw [storedW, bw_eq, br_eq, cw_blk]

theorem final9 : (dats m 0 c).arrAt 9 cfg0.N = fun i => sw (aW m c) (aR m c) (i 1) :=
  arr9 m c (fun _ b => sw (aW m c) (aR m c) b) fun t a b => by
    rw [Subsingleton.elim a 0, rowW, bw_eq, br_eq, sw_blk]

theorem final10 : (dats m 0 c).arrAt 10 cfg0.N = fun i => Ideal.fptosi 8 (cw (aW2 m c) (aR m c) (i 0) (i 1)) :=
  arr10 m c (fun a b => Ideal.fptosi 8 (cw (aW2 m c) (aR m c) a b)) fun t a b => by
    rw [storedW2, bw2_eq, br_eq, cw_blk]

theorem final11 : (dats m 0 c).arrAt 11 cfg0.N = fun i => sw (aW2 m c) (aR m c) (i 1) :=
  arr11 m c (fun _ b => sw (aW2 m c) (aR m c) b) fun t a b => by
    rw [Subsingleton.elim a 0, rowW2, bw2_eq, br_eq, sw_blk]

end Cert.KernelIdeal.Front

end
-- ==== Proof.Results.lean ====
/- The reference's run, and both programs' results as the same matrices. -/
module

public import proofs.«01_k».proof.Proof.IdValue
public import proofs.«01_k».proof.Proof.Gen.ReferenceIdeal.Run
public import Idealize.ShloMosaic.Adequacy

@[expose] public section

set_option maxRecDepth 16384

noncomputable section

namespace Cert.Results

open Idealize.ShloMosaic Idealize.SL.Sem Cert.Spec

/-! ## What the reference ends holding -/

section
open Cert.ReferenceIdeal Cert.ReferenceIdeal.Front Cert.ReferenceIdeal.Read

variable (x0 : (⟨S2x128x2048, .bf16⟩ : BufTy).Contents (Elt Ideal)) (x1 x2 : (⟨S5632x2048, .bf16⟩ : BufTy).Contents (Elt Ideal)) (x3 : (⟨S2048x2048, .bf16⟩ : BufTy).Contents (Elt Ideal))

theorem ref0 : val_main_v118 x0 x1 x2 x3 = fun i => gV (xm x0) (wm x1) (wm x2) (rm x3) (i 0) (i 1) := by
  have h : ∀ (a : Fin 2048) (b : Fin 2048), val_main_v118 x0 x1 x2 x3 (ix2 a b) = gV (xm x0) (wm x1) (wm x2) (rm x3) a b := fun a b => by
    exact g_at x0 x1 x2 x3 a b
  funext i
  obtain ⟨y, ey⟩ : ∃ y, val_main_v118 x0 x1 x2 x3 = y := ⟨_, rfl⟩
  rw [ey] at h ⊢
  exact (congrArg y (eq_ix2 (n0 := 2048) (n1 := 2048) i)).trans (h (i 0) (i 1))

theorem ref1 : val_main_v85 x0 x1 x2 x3 = fun _ => meanV (xm x0) (wm x1) (wm x2) (rm x3) := by
  funext i
  exact out1 x0 x1 x2 x3 i

theorem ref2 : val_main_v83 x0 x1 x2 x3 = fun i => tokV (xm x0) (wm x1) (wm x2) (rm x3) (rowx (i 0) (i 1)) := by
  have h : ∀ (a : Fin 2) (b : Fin 128), val_main_v83 x0 x1 x2 x3 (ix2 a b) = tokV (xm x0) (wm x1) (wm x2) (rm x3) (rowx a b) := fun a b => by
    exact loss_at x0 x1 x2 x3 a b
  funext i
  obtain ⟨y, ey⟩ : ∃ y, val_main_v83 x0 x1 x2 x3 = y := ⟨_, rfl⟩
  rw [ey] at h ⊢
  exact (congrArg y (eq_ix2 (n0 := 2) (n1 := 128) i)).trans (h (i 0) (i 1))

theorem ref3 : val_main_v17_0 x0 x3 = fun i => Ideal.fptosi 8 (cx (xm x0) (rm x3) (rowx (i 0) (i 1)) (i 2)) := by
  have h : ∀ (a : Fin 2) (b : Fin 128) (d : Fin 2048), val_main_v17_0 x0 x3 (ix3 a b d) = Ideal.fptosi 8 (cx (xm x0) (rm x3) (rowx a b) d) := fun a b d => by
    exact x_stored x0 x3 a b d
  funext i
  obtain ⟨y, ey⟩ : ∃ y, val_main_v17_0 x0 x3 = y := ⟨_, rfl⟩
  rw [ey] at h ⊢
  exact (congrArg y (eq_ix3 (n0 := 2) (n1 := 128) (n2 := 2048) i)).trans (h (i 0) (i 1) (i 2))

theorem ref4 : val_main_v17_1 x0 x3 = fun i => sx (xm x0) (rm x3) (rowx (i 0) (i 1)) := by
  have h : ∀ (a : Fin 2) (b : Fin 128), val_main_v17_1 x0 x3 (ix2 a b) = sx (xm x0) (rm x3) (rowx a b) := fun a b => by
    exact out4 x0 x3 a b
  funext i
  obtain ⟨y, ey⟩ : ∃ y, val_main_v17_1 x0 x3 = y := ⟨_, rfl⟩
  rw [ey] at h ⊢
  exact (congrArg y (eq_ix2 (n0 := 2) (n1 := 128) i)).trans (h (i 0) (i 1))

theorem ref5 : val_main_v32_0 x1 x3 = fun i => Ideal.fptosi 8 (cw (wm x1) (rm x3) (i 0) (i 1)) := by
  have h : ∀ (a : Fin 5632) (b : Fin 2048), val_main_v32_0 x1 x3 (ix2 a b) = Ideal.fptosi 8 (cw (wm x1) (rm x3) a b) := fun a b => by
    exact w_stored x1 x3 a b
  funext i
  obtain ⟨y, ey⟩ : ∃ y, val_main_v32_0 x1 x3 = y := ⟨_, rfl⟩
  rw [ey] at h ⊢
  exact (congrArg y (eq_ix2 (n0 := 5632) (n1 := 2048) i)).trans (h (i 0) (i 1))

theorem ref6 : val_main_v32_1 x1 x3 = fun i => sw (wm x1) (rm x3) (i 0) := by
  have h : ∀ (a : Fin 5632), val_main_v32_1 x1 x3 (ix1 a) = sw (wm x1) (rm x3) a := fun a => by
    exact out6 x1 x3 a
  funext i
  obtain ⟨y, ey⟩ : ∃ y, val_main_v32_1 x1 x3 = y := ⟨_, rfl⟩
  rw [ey] at h ⊢
  exact (congrArg y (eq_ix1 (n0 := 5632) i)).trans (h (i 0))

theorem ref7 : val_main_v47_0 x2 x3 = fun i => Ideal.fptosi 8 (cw (wm x2) (rm x3) (i 0) (i 1)) := by
  have h : ∀ (a : Fin 5632) (b : Fin 2048), val_main_v47_0 x2 x3 (ix2 a b) = Ideal.fptosi 8 (cw (wm x2) (rm x3) a b) := fun a b => by
    exact w2_stored x2 x3 a b
  funext i
  obtain ⟨y, ey⟩ : ∃ y, val_main_v47_0 x2 x3 = y := ⟨_, rfl⟩
  rw [ey] at h ⊢
  exact (congrArg y (eq_ix2 (n0 := 5632) (n1 := 2048) i)).trans (h (i 0) (i 1))

theorem ref8 : val_main_v47_1 x2 x3 = fun i => sw (wm x2) (rm x3) (i 0) := by
  have h : ∀ (a : Fin 5632), val_main_v47_1 x2 x3 (ix1 a) = sw (wm x2) (rm x3) a := fun a => by
    exact out8 x2 x3 a
  funext i
  obtain ⟨y, ey⟩ : ∃ y, val_main_v47_1 x2 x3 = y := ⟨_, rfl⟩
  rw [ey] at h ⊢
  exact (congrArg y (eq_ix1 (n0 := 5632) i)).trans (h (i 0))

end

/-! ## Both runs end with the same nine results -/

section
open Cert.KernelIdeal Cert.KernelIdeal.Gen Cert.KernelIdeal.Front

variable (m : (ℓ : Loc nD τ sig) → Buf (Elt Ideal) ℓ) (c : Dev nD)

def res0 : Buf (Elt Ideal) ((c.tc : Thread nD τ).loc main_v1_0) := fun i => gV (aX m c) (aW m c) (aW2 m c) (aR m c) (i 0) (i 1)
def res1 : Buf (Elt Ideal) ((c.tc : Thread nD τ).loc main_v6) := fun _ => meanV (aX m c) (aW m c) (aW2 m c) (aR m c)
def res2 : Buf (Elt Ideal) ((c.tc : Thread nD τ).loc main_v4) := fun i => tokV (aX m c) (aW m c) (aW2 m c) (aR m c) (rowx (i 0) (i 1))
def res3 : Buf (Elt Ideal) ((c.tc : Thread nD τ).loc main_v7) := fun i => Ideal.fptosi 8 (cx (aX m c) (aR m c) (rowx (i 0) (i 1)) (i 2))
def res4 : Buf (Elt Ideal) ((c.tc : Thread nD τ).loc main_v8) := fun i => sx (aX m c) (aR m c) (rowx (i 0) (i 1))
def res5 : Buf (Elt Ideal) ((c.tc : Thread nD τ).loc main_v1_4) := fun i => Ideal.fptosi 8 (cw (aW m c) (aR m c) (i 0) (i 1))
def res6 : Buf (Elt Ideal) ((c.tc : Thread nD τ).loc main_v9) := fun i => sw (aW m c) (aR m c) (i 0)
def res7 : Buf (Elt Ideal) ((c.tc : Thread nD τ).loc main_v1_6) := fun i => Ideal.fptosi 8 (cw (aW2 m c) (aR m c) (i 0) (i 1))
def res8 : Buf (Elt Ideal) ((c.tc : Thread nD τ).loc main_v10) := fun i => sw (aW2 m c) (aR m c) (i 0)

/-- The loss row as the host lines after the call find it. -/
theorem loss_row : Pipeline.withArrays spec0 c (V0 m c) (fun w => (dats m 0 c).arrAt w cfg0.N) (Proc.devRef .tc main_v1_1) = fun i => lossV (aX m c) (aW m c) (aW2 m c) (aR m c) (i 1) :=
  (Pipeline.withArrays_arr spec0 launch0.win.arr_inj c _ _ 5).trans (final5 m c)

/-- The loss row divided by the number of outputs, folded by batch. -/
theorem tok_fold (L : FVec Ideal S1x256 .f32) (hL : ∀ b, L (ix2 0 b) = lossV (aX m c) (aW m c) (aW2 m c) (aR m c) b) :
    (shapeCast S2x128 (Host.divf L (broadcastInDim S1x256 ![] bcast_S_S1x256 (constant S_ FTy.f32 0x45B00000#32))) shapeCasts_S1x256_S2x128 : FVec Ideal S2x128 .f32) = fun i => tokV (aX m c) (aW m c) (aW2 m c) (aR m c) (rowx (i 0) (i 1)) := by
  have h : ∀ (s : Fin 2) (j : Fin 128), (shapeCast S2x128 (Host.divf L (broadcastInDim S1x256 ![] bcast_S_S1x256 (constant S_ FTy.f32 0x45B00000#32))) shapeCasts_S1x256_S2x128 : FVec Ideal S2x128 .f32) (ix2 s j) = tokV (aX m c) (aW m c) (aW2 m c) (aR m c) (rowx s j) := fun s j => by
    pointwise []
    have e : (⟨s.val * 128 + j.val, by have := s.isLt; have := j.isLt; omega⟩ : Fin 256) = rowx s j := Fin.ext (by simp only [rowx]; omega)
    exact congrArg (fun v => Ideal.div v nOut) ((congrArg (fun b => L (ix2 0 b)) e).trans (hL _))
  funext i
  obtain ⟨y, ey⟩ : ∃ y, (shapeCast S2x128 (Host.divf L (broadcastInDim S1x256 ![] bcast_S_S1x256 (constant S_ FTy.f32 0x45B00000#32))) shapeCasts_S1x256_S2x128 : FVec Ideal S2x128 .f32) = y := ⟨_, rfl⟩
  rw [ey] at h ⊢
  exact (congrArg y (eq_ix2 (n0 := 2) (n1 := 128) i)).trans (h (i 0) (i 1))

/-- The mean over the rows. -/
theorem mean_fold (T : FVec Ideal S2x128 .f32) (hT : ∀ s j, T (ix2 s j) = tokV (aX m c) (aW m c) (aW2 m c) (aR m c) (rowx s j)) (i : S_.Idx) :
    (Host.divf (Host.reduceAdd T (constant S_ FTy.f32 0#32) reducesTo_S2x128_S_d0_1 h_S_) (constant S_ FTy.f32 0x43800000#32) : FVec Ideal S_ .f32) i = meanV (aX m c) (aW m c) (aW2 m c) (aR m c) := by
  pointwise []
  simp only [hT]
  rw [sum_rowx fun b => tokV (aX m c) (aW m c) (aW2 m c) (aR m c) b]
  rfl

/-- The host lines divide the row by the number of outputs and fold it by batch. -/
theorem tok_host : Pipeline.afterTail₀ cfgs (dats m) 0 (V0 m) [hostOps1] c main_v4 = res2 m c := by
  have hw := loss_row m c
  unfold Pipeline.afterTail₀
  obtain ⟨W, eW⟩ : ∃ W, Pipeline.withArrays spec0 c (V0 m c) (fun w => (dats m 0 c).arrAt w cfg0.N) = W := ⟨_, rfl⟩
  rw [eW] at hw
  refine (congrArg (fun U => StableHlo.after (List.flatten [hostOps1]) U (Proc.devRef .tc main_v4)) eW).trans ?_
  simp only [hostOps1, List.flatten_cons, List.flatten_nil, List.append_nil]
  after_results_simp
  rw [hw]
  exact tok_fold m c _ fun b => rfl

/-- The host lines take the mean over the rows. -/
theorem mean_host : Pipeline.afterTail₀ cfgs (dats m) 0 (V0 m) [hostOps1] c main_v6 = res1 m c := by
  have hw := loss_row m c
  unfold Pipeline.afterTail₀
  obtain ⟨W, eW⟩ : ∃ W, Pipeline.withArrays spec0 c (V0 m c) (fun w => (dats m 0 c).arrAt w cfg0.N) = W := ⟨_, rfl⟩
  rw [eW] at hw
  refine (congrArg (fun U => StableHlo.after (List.flatten [hostOps1]) U (Proc.devRef .tc main_v6)) eW).trans ?_
  simp only [hostOps1, List.flatten_cons, List.flatten_nil, List.append_nil]
  after_results_simp
  rw [hw]
  funext i
  exact mean_fold m c _ (fun s j => congrFun (tok_fold m c _ fun b => rfl) (ix2 s j)) i

/-- The codes of `x`, folded by batch, hold their entry of the row; so do the scales. -/
theorem fold3 (L : IVec S256x2048 8) : shapeCast S2x128x2048 L shapeCasts_S256x2048_S2x128x2048 = fun i => L (ix2 (rowx (i 0) (i 1)) (i 2)) := by
  have h : ∀ (s : Fin 2) (j : Fin 128) (d : Fin 2048), shapeCast S2x128x2048 L shapeCasts_S256x2048_S2x128x2048 (ix3 s j d) = L (ix2 (rowx s j) d) := fun s j d => by
    pointwise []
    have e : (⟨s.val * 128 + j.val, by have := s.isLt; have := j.isLt; omega⟩ : Fin 256) = rowx s j := Fin.ext (by simp only [rowx]; omega)
    exact congrArg (fun b => L (ix2 b d)) e
  funext i
  obtain ⟨y, ey⟩ : ∃ y, shapeCast S2x128x2048 L shapeCasts_S256x2048_S2x128x2048 = y := ⟨_, rfl⟩
  rw [ey] at h ⊢
  exact (congrArg y (eq_ix3 (n0 := 2) (n1 := 128) (n2 := 2048) i)).trans (h (i 0) (i 1) (i 2))

theorem fold2 (L : FVec Ideal S1x256 .f32) : shapeCast S2x128 L shapeCasts_S1x256_S2x128 = fun i => L (ix2 0 (rowx (i 0) (i 1))) := by
  have h : ∀ (s : Fin 2) (j : Fin 128), shapeCast S2x128 L shapeCasts_S1x256_S2x128 (ix2 s j) = L (ix2 0 (rowx s j)) := fun s j => by
    pointwise []
    have e : (⟨s.val * 128 + j.val, by have := s.isLt; have := j.isLt; omega⟩ : Fin 256) = rowx s j := Fin.ext (by simp only [rowx]; omega)
    exact congrArg (fun b => L (ix2 0 b)) e
  funext i
  obtain ⟨y, ey⟩ : ∃ y, shapeCast S2x128 L shapeCasts_S1x256_S2x128 = y := ⟨_, rfl⟩
  rw [ey] at h ⊢
  exact (congrArg y (eq_ix2 (n0 := 2) (n1 := 128) i)).trans (h (i 0) (i 1))

theorem fold1 (L : FVec Ideal S1x5632 .f32) : shapeCast S5632 L shapeCasts_S1x5632_S5632 = fun i => L (ix2 0 (i 0)) := by
  have h : ∀ (o : Fin 5632), shapeCast S5632 L shapeCasts_S1x5632_S5632 (ix1 o) = L (ix2 0 o) := fun o => by
    pointwise []
  funext i
  obtain ⟨y, ey⟩ : ∃ y, shapeCast S5632 L shapeCasts_S1x5632_S5632 = y := ⟨_, rfl⟩
  rw [ey] at h ⊢
  exact (congrArg y (eq_ix1 (n0 := 5632) i)).trans (h (i 0))

theorem xc_host : Pipeline.afterTail₀ cfgs (dats m) 0 (V0 m) [hostOps1] c main_v7 = res3 m c := by
  have hw : Pipeline.withArrays spec0 c (V0 m c) (fun w => (dats m 0 c).arrAt w cfg0.N) (Proc.devRef .tc main_v1_2) = fun i => Ideal.fptosi 8 (cx (aX m c) (aR m c) (i 0) (i 1)) :=
    (Pipeline.withArrays_arr spec0 launch0.win.arr_inj c _ _ 6).trans (final6 m c)
  unfold Pipeline.afterTail₀
  obtain ⟨W, eW⟩ : ∃ W, Pipeline.withArrays spec0 c (V0 m c) (fun w => (dats m 0 c).arrAt w cfg0.N) = W := ⟨_, rfl⟩
  rw [eW] at hw
  refine (congrArg (fun U => StableHlo.after (List.flatten [hostOps1]) U (Proc.devRef .tc main_v7)) eW).trans ?_
  simp only [hostOps1, List.flatten_cons, List.flatten_nil, List.append_nil]
  after_results_simp
  rw [hw]
  exact fold3 _

theorem xs_host : Pipeline.afterTail₀ cfgs (dats m) 0 (V0 m) [hostOps1] c main_v8 = res4 m c := by
  have hw : Pipeline.withArrays spec0 c (V0 m c) (fun w => (dats m 0 c).arrAt w cfg0.N) (Proc.devRef .tc main_v1_3) = fun i => sx (aX m c) (aR m c) (i 1) :=
    (Pipeline.withArrays_arr spec0 launch0.win.arr_inj c _ _ 7).trans (final7 m c)
  unfold Pipeline.afterTail₀
  obtain ⟨W, eW⟩ : ∃ W, Pipeline.withArrays spec0 c (V0 m c) (fun w => (dats m 0 c).arrAt w cfg0.N) = W := ⟨_, rfl⟩
  rw [eW] at hw
  refine (congrArg (fun U => StableHlo.after (List.flatten [hostOps1]) U (Proc.devRef .tc main_v8)) eW).trans ?_
  simp only [hostOps1, List.flatten_cons, List.flatten_nil, List.append_nil]
  after_results_simp
  rw [hw]
  exact fold2 _

theorem ws_host : Pipeline.afterTail₀ cfgs (dats m) 0 (V0 m) [hostOps1] c main_v9 = res6 m c := by
  have hw : Pipeline.withArrays spec0 c (V0 m c) (fun w => (dats m 0 c).arrAt w cfg0.N) (Proc.devRef .tc main_v1_5) = fun i => sw (aW m c) (aR m c) (i 1) :=
    (Pipeline.withArrays_arr spec0 launch0.win.arr_inj c _ _ 9).trans (final9 m c)
  unfold Pipeline.afterTail₀
  obtain ⟨W, eW⟩ : ∃ W, Pipeline.withArrays spec0 c (V0 m c) (fun w => (dats m 0 c).arrAt w cfg0.N) = W := ⟨_, rfl⟩
  rw [eW] at hw
  refine (congrArg (fun U => StableHlo.after (List.flatten [hostOps1]) U (Proc.devRef .tc main_v9)) eW).trans ?_
  simp only [hostOps1, List.flatten_cons, List.flatten_nil, List.append_nil]
  after_results_simp
  rw [hw]
  exact fold1 _

theorem w2s_host : Pipeline.afterTail₀ cfgs (dats m) 0 (V0 m) [hostOps1] c main_v10 = res8 m c := by
  have hw : Pipeline.withArrays spec0 c (V0 m c) (fun w => (dats m 0 c).arrAt w cfg0.N) (Proc.devRef .tc main_v1_7) = fun i => sw (aW2 m c) (aR m c) (i 1) :=
    (Pipeline.withArrays_arr spec0 launch0.win.arr_inj c _ _ 11).trans (final11 m c)
  unfold Pipeline.afterTail₀
  obtain ⟨W, eW⟩ : ∃ W, Pipeline.withArrays spec0 c (V0 m c) (fun w => (dats m 0 c).arrAt w cfg0.N) = W := ⟨_, rfl⟩
  rw [eW] at hw
  refine (congrArg (fun U => StableHlo.after (List.flatten [hostOps1]) U (Proc.devRef .tc main_v10)) eW).trans ?_
  simp only [hostOps1, List.flatten_cons, List.flatten_nil, List.append_nil]
  after_results_simp
  rw [hw]
  exact fold1 _

theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = res0 m c
      ∧ r.2.mem ((c.tc : Thread nD τ).loc main_v6) = res1 m c
      ∧ r.2.mem ((c.tc : Thread nD τ).loc main_v4) = res2 m c
      ∧ r.2.mem ((c.tc : Thread nD τ).loc main_v7) = res3 m c
      ∧ r.2.mem ((c.tc : Thread nD τ).loc main_v8) = res4 m c
      ∧ r.2.mem ((c.tc : Thread nD τ).loc main_v1_4) = res5 m c
      ∧ r.2.mem ((c.tc : Thread nD τ).loc main_v9) = res6 m c
      ∧ r.2.mem ((c.tc : Thread nD τ).loc main_v1_6) = res7 m c
      ∧ r.2.mem ((c.tc : Thread nD τ).loc main_v10) = res8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).2 main_v6 (Pipeline.mem_restRefs_of main_v6 (by decide) (by decide))).trans (mean_host m c), ((h.1 c).2 main_v4 (Pipeline.mem_restRefs_of main_v4 (by decide) (by decide))).trans (tok_host m c), ((h.1 c).2 main_v7 (Pipeline.mem_restRefs_of main_v7 (by decide) (by decide))).trans (xc_host m c), ((h.1 c).2 main_v8 (Pipeline.mem_restRefs_of main_v8 (by decide) (by decide))).trans (xs_host m c), ((h.1 c).1 8).trans (final8 m c), ((h.1 c).2 main_v9 (Pipeline.mem_restRefs_of main_v9 (by decide) (by decide))).trans (ws_host m c), ((h.1 c).1 10).trans (final10 m c), ((h.1 c).2 main_v10 (Pipeline.mem_restRefs_of main_v10 (by decide) (by decide))).trans (w2s_host m c), h.2 c⟩)
    (θ_run_and (run_main m g) (unchanged m g))

end

section
open Cert.ReferenceIdeal Cert.ReferenceIdeal.Front Cert.ReferenceIdeal.Read

theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v118) = val_main_v118 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v85) = val_main_v85 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v83) = val_main_v83 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17_0) = val_main_v17_0 (m ((c.tc : Thread nD τ).loc main_arg0)) (m ((c.tc : Thread nD τ).loc main_arg3))
      ∧ r.2.mem ((c.tc : Thread nD τ).loc main_v17_1) = val_main_v17_1 (m ((c.tc : Thread nD τ).loc main_arg0)) (m ((c.tc : Thread nD τ).loc main_arg3))
      ∧ r.2.mem ((c.tc : Thread nD τ).loc main_v32_0) = val_main_v32_0 (m ((c.tc : Thread nD τ).loc main_arg1)) (m ((c.tc : Thread nD τ).loc main_arg3))
      ∧ r.2.mem ((c.tc : Thread nD τ).loc main_v32_1) = val_main_v32_1 (m ((c.tc : Thread nD τ).loc main_arg1)) (m ((c.tc : Thread nD τ).loc main_arg3))
      ∧ r.2.mem ((c.tc : Thread nD τ).loc main_v47_0) = val_main_v47_0 (m ((c.tc : Thread nD τ).loc main_arg2)) (m ((c.tc : Thread nD τ).loc main_arg3))
      ∧ r.2.mem ((c.tc : Thread nD τ).loc main_v47_1) = val_main_v47_1 (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.ReferenceIdeal.Value.run m g)
  obtain ⟨h0, h1, h2, h3, h4, h5, h6, h7, h8, ha⟩ := h c
  exact ⟨h0.trans (val_main_v118_eq m c), h1.trans (val_main_v85_eq m c), h2.trans (val_main_v83_eq m c), h3.trans (val_main_v17_0_eq _ _), h4.trans (val_main_v17_1_eq _ _), h5.trans (val_main_v32_0_eq _ _), h6.trans (val_main_v32_1_eq _ _), h7.trans (val_main_v47_0_eq _ _), h8.trans (val_main_v47_1_eq _ _), ha⟩

end

end Cert.Results

end
-- ==== Proof.TailSpec.lean ====
/- The tail over the real numbers: the product of the gradient with the rotation, its skew part, the step along it and the
   two corrections. -/
module

public import Idealize.ShloMosaic.Lib.Pointwise
public import Idealize.ShloMosaic.Lib.Pipeline.ValueKit

@[expose] public section

noncomputable section

namespace Cert.TailSpec

open Idealize.ShloMosaic

/-- A matrix of reals. -/
abbrev RMat (n k : ℕ) := Fin n → Fin k → ℝ

def mulT {n : ℕ} (a : RMat n 2048) (b : RMat 2048 2048) : RMat n 2048 := fun i j => ∑ k, a i k * b j k
def mulN {n : ℕ} (a : RMat n 2048) (b : RMat 2048 2048) : RMat n 2048 := fun i j => ∑ k, a i k * b k j
def skew (p : RMat 2048 2048) : RMat 2048 2048 := fun i j => p i j - p j i
def ssum (a : RMat 2048 2048) : ℝ := ∑ i, ∑ j, a i j * a i j
def eps : ℝ := 9223372 / 2 ^ 63
def alpha (s : ℝ) : ℝ := 1 / (Real.sqrt s + eps)

theorem eps_pos : 0 < eps := by unfold eps; norm_num
theorem den_ne (s : ℝ) : Real.sqrt s + eps ≠ 0 := by have := Real.sqrt_nonneg s; have := eps_pos; positivity
theorem ssum_nonneg (a : RMat 2048 2048) : 0 ≤ ssum a :=
  Finset.sum_nonneg fun i _ => Finset.sum_nonneg fun j _ => mul_self_nonneg _

section
variable (s : ℝ) (a r : RMat 2048 2048)

/-- The step, and the step after each correction, of the skew matrix `a` of squared length `s`. -/
def delta0 : RMat 2048 2048 := fun i j => (0 - alpha s) * mulN a r i j
def delta1 : RMat 2048 2048 := fun i j => delta0 s a r i j - (1 / 2 * alpha s) * mulN a (delta0 s a r) i j
def corr : RMat 2048 2048 := fun i j => (0 - 1 / 2 * alpha s) * mulN a (delta1 s a r) i j
def deltaR : RMat 2048 2048 := fun i j => delta0 s a r i j + corr s a r i j

/-- The same by the fixed-point form: each round applies the skew matrix to twice the rotation plus the last step. -/
def fix1 : RMat 2048 2048 := fun i j => (-(1 / 2 * alpha s)) * mulN a (fun x y => 2 * r x y + delta0 s a r x y) i j
def fix2 : RMat 2048 2048 := fun i j => (-(1 / 2 * alpha s)) * mulN a (fun x y => 2 * r x y + fix1 s a r x y) i j

theorem mulN_two (d : RMat 2048 2048) (i j : Fin 2048) :
    mulN a (fun x y => 2 * r x y + d x y) i j = 2 * mulN a r i j + mulN a d i j := by
  unfold mulN
  rw [Finset.mul_sum, ← Finset.sum_add_distrib]
  exact Finset.sum_congr rfl fun k _ => by ring

theorem fix1_eq : fix1 s a r = delta1 s a r := by
  funext i j
  unfold fix1
  rw [mulN_two]
  unfold delta1
  obtain ⟨y, ey⟩ : ∃ y, mulN a (delta0 s a r) i j = y := ⟨_, rfl⟩
  rw [ey]
  unfold delta0
  ring

theorem fix2_eq : fix2 s a r = deltaR s a r := by
  funext i j
  unfold fix2
  rw [fix1_eq, mulN_two]
  unfold deltaR corr
  obtain ⟨y, ey⟩ : ∃ y, mulN a (delta1 s a r) i j = y := ⟨_, rfl⟩
  rw [ey]
  unfold delta0
  ring

theorem corr_eq : (fun i j => fix2 s a r i j - delta0 s a r i j) = corr s a r := by
  rw [fix2_eq]; funext i j; unfold deltaR; ring
end

/-! ## Reals inside the extended reals -/

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem coe_dot {n : ℕ} (f g : Fin n → ℝ) : ∑ k, ((f k : ℝ) : EReal) * ((g k : ℝ) : EReal) = ((∑ k, f k * g k : ℝ) : EReal) := by
  rw [← coe_sum]; exact Finset.sum_congr rfl fun k _ => (EReal.coe_mul _ _).symm

/-- The third and second pieces of a real are zero. -/
theorem sub_self_coe (x : ℝ) : ((x : ℝ) : EReal) - ((x : ℝ) : EReal) = 0 := by
  rw [← EReal.coe_sub, sub_self, EReal.coe_zero]

/-- The product of the split operands is the product of what was split. -/
theorem six {n : ℕ} (x y : Fin n → ℝ) (a b b2 b3 : Fin n → EReal) (ha : ∀ k, a k = ((x k : ℝ) : EReal)) (hb : ∀ k, b k = ((y k : ℝ) : EReal))
    (h2 : ∀ k, b2 k = 0) (h3 : ∀ k, b3 k = 0) :
    ∑ k, a k * b3 k + ∑ k, (a k - a k) * b2 k + ∑ k, (a k - a k - (a k - a k)) * b k + (∑ k, a k * b2 k + ∑ k, (a k - a k) * b k) + ∑ k, a k * b k
      = ((∑ k, x k * y k : ℝ) : EReal) := by
  have z : ∀ k, a k - a k = 0 := fun k => by rw [ha, sub_self_coe]
  simp only [z, h2, h3, sub_zero, mul_zero, zero_mul, Finset.sum_const_zero, add_zero, zero_add]
  simp only [ha, hb]
  exact coe_dot x y

theorem eps_eq : Ideal.ofBits FTy.f32 0x2B8CBCCC#32 = ((eps : ℝ) : EReal) := by
  simp [eps, Ideal.ofBits, Ideal.ieee, -EReal.coe_mul, -EReal.coe_neg]; norm_num
theorem half_eq : Ideal.ofBits FTy.f32 0x3F000000#32 = ((1 / 2 : ℝ) : EReal) := by
  simp [Ideal.ofBits, Ideal.ieee, -EReal.coe_mul, -EReal.coe_neg]; norm_num
theorem one_eq : Ideal.ofBits FTy.f32 0x3F800000#32 = ((1 : ℝ) : EReal) := by
  simp [Ideal.ofBits, Ideal.ieee, -EReal.coe_mul, -EReal.coe_neg]; norm_num
theorem two_eq : Ideal.ofBits FTy.f32 0x40000000#32 = ((2 : ℝ) : EReal) := by
  simp [Ideal.ofBits, Ideal.ieee, -EReal.coe_mul, -EReal.coe_neg]; norm_num
theorem inf_eq : Ideal.ofBits FTy.f32 0x7F800000#32 = ⊤ := by
  simp [Ideal.ofBits, Ideal.ieee]

theorem sqrt_real (s : ℝ) (hs : 0 ≤ s) : Ideal.sqrt ((s : ℝ) : EReal) = ((Real.sqrt s : ℝ) : EReal) := by
  show (if s < 0 then (⊥ : EReal) else _) = _
  rw [if_neg (not_lt.mpr hs)]

theorem alpha_eq (s : ℝ) (hs : 0 ≤ s) : Ideal.div ((1 : ℝ) : EReal) (Ideal.sqrt ((s : ℝ) : EReal) + ((eps : ℝ) : EReal)) = ((alpha s : ℝ) : EReal) := by
  rw [sqrt_real s hs, ← EReal.coe_add, Ideal.div_coe (den_ne s), ← EReal.coe_mul, one_mul]
  rfl

theorem finite_coe (x : EReal) (h : max x (-x) < ⊤) : x = ((x.toReal : ℝ) : EReal) := by
  induction x using EReal.rec with
  | bot => simp at h
  | top => simp at h
  | coe r => simp

end Cert.TailSpec

end
-- ==== Proof.TailPay.lean ====
/- What one grid point of each call of the tail computes at an index, over the real numbers. -/
module

public import proofs.«01_k».proof.Proof.Gen.TailIdeal.Skeleton
public import proofs.«01_k».proof.Proof.TailSpec

@[expose] public section

set_option maxRecDepth 16384

noncomputable section

namespace Cert.TailIdeal.Tail

open Cert.TailIdeal Cert.TailIdeal.Gen Idealize.ShloMosaic Cert.TailSpec

/-- A float matrix of the program holds the reals of `a`. -/
def Holds {n k : ℕ} {φ : FTy} (x : FVec Ideal (⟨2, ![n, k]⟩ : Shape) φ) (a : RMat n k) : Prop :=
  ∀ i j, x (ix2 i j) = ((a i j : ℝ) : EReal)

/-- A float matrix of the program is zero everywhere. -/
def Zero {n k : ℕ} {φ : FTy} (x : FVec Ideal (⟨2, ![n, k]⟩ : Shape) φ) : Prop := ∀ i j, x (ix2 i j) = 0

/-! ## The pieces of a split -/

section
variable (x : FVec Ideal S256x2048 .f32) (a : RMat 256 2048) (h : Holds x a)

theorem k0_1 (h : Holds x a) : Holds (k0_pay1 x) a := fun i j => by
  unfold k0_pay1
  pointwise []
  exact h i j
theorem k0_3 (h : Holds x a) : Zero (k0_pay3 x) := fun i j => by
  unfold k0_pay3 k0_pay2 k0_pay1
  pointwise []
  rw [h i j, sub_self_coe]
theorem k0_4 (h : Holds x a) : Zero (k0_pay4 x) := fun i j => by
  unfold k0_pay4 k0_pay3 k0_pay2 k0_pay1
  pointwise []
  rw [h i j, sub_self_coe, sub_zero]
theorem k3_1 (h : Holds x a) : Holds (k3_pay1 x) a := fun i j => by
  unfold k3_pay1
  pointwise []
  exact h i j
theorem k3_3 (h : Holds x a) : Zero (k3_pay3 x) := fun i j => by
  unfold k3_pay3 k3_pay2 k3_pay1
  pointwise []
  rw [h i j, sub_self_coe]
theorem k3_4 (h : Holds x a) : Zero (k3_pay4 x) := fun i j => by
  unfold k3_pay4 k3_pay3 k3_pay2 k3_pay1
  pointwise []
  rw [h i j, sub_self_coe, sub_zero]
end

section
variable (x : FVec Ideal S256x2048 .f32) (b b2 b3 : FVec Ideal S2048x2048 .bf16) (a : RMat 256 2048) (r : RMat 2048 2048)

theorem k1_1 (h : Holds x a) (hb : Holds b r) (h2 : Zero b2) (h3 : Zero b3) : Holds (k1_pay1 x b b2 b3) (mulT a r) := fun i j => by
  unfold k1_pay1
  pointwise []
  exact six _ _ (fun k => x (ix2 i k)) (fun k => b (ix2 j k)) (fun k => b2 (ix2 j k)) (fun k => b3 (ix2 j k))
    (fun k => h i k) (fun k => hb j k) (fun k => h2 j k) (fun k => h3 j k)

theorem k4_7 (h : Holds x a) (hb : Holds b r) (h2 : Zero b2) (h3 : Zero b3) : Holds (k4_pay7 x b b2 b3) (mulN a r) := fun i j => by
  unfold k4_pay7
  pointwise []
  exact six _ _ (fun k => x (ix2 i k)) (fun k => b (ix2 k j)) (fun k => b2 (ix2 k j)) (fun k => b3 (ix2 k j))
    (fun k => h i k) (fun k => hb k j) (fun k => h2 k j) (fun k => h3 k j)

variable (v : FVec Ideal S1x1 .f32) (s : ℝ)

theorem k4_8 (hs : 0 ≤ s) (hv : v (ix2 0 0) = ((s : ℝ) : EReal)) : Holds (k4_pay8 v) (fun (_ : Fin 256) (_ : Fin 2048) => 1 / 2 * alpha s) := fun i j => by
  unfold k4_pay8
  pointwise []
  rw [hv, eps_eq, half_eq, ← EReal.coe_one, alpha_eq s hs, ← EReal.coe_mul]

/-- The step of a block of rows. -/
theorem k3_5 (hs : 0 ≤ s) (hv : v (ix2 0 0) = ((s : ℝ) : EReal)) (h : Holds x a) (hb : Holds b r) (h2 : Zero b2) (h3 : Zero b3) :
    Holds (k3_pay5 v x b b2 b3) (fun i j => (0 - alpha s) * mulN a r i j) := fun i j => by
  have h7 := k4_7 x b b2 b3 a r h hb h2 h3 i j
  have e : k3_pay5 v x b b2 b3 = mulf (broadcastTo S256x2048 (subf (broadcast S1x1 (Scalar.ofBits (F := Ideal) .f32 0x00000000#32))
      (divf (broadcast S1x1 (Scalar.ofBits (F := Ideal) .f32 0x3F800000#32)) (addf (sqrt (shapeCast S1x1 v shapeCasts_S1x1_S1x1))
        (broadcast S1x1 (Scalar.ofBits (F := Ideal) .f32 0x2B8CBCCC#32))))) broadcasts_S1x1_S256x2048) (k4_pay7 x b b2 b3) := rfl
  rw [e]
  obtain ⟨y, ey⟩ : ∃ y, k4_pay7 (F := Ideal) x b b2 b3 = y := ⟨_, rfl⟩
  rw [ey] at h7 ⊢
  pointwise []
  rw [h7, hv, eps_eq, ← EReal.coe_one, alpha_eq s hs]
  norm_num

theorem k5_2 (hs : 0 ≤ s) (hv : v (ix2 0 0) = ((s : ℝ) : EReal)) (h : Holds x a) (hb : Holds b r) (h2 : Zero b2) (h3 : Zero b3) :
    Holds (k5_pay2 v x b b2 b3) (fun i j => (0 - 1 / 2 * alpha s) * mulN a r i j) := fun i j => by
  have h7 := k4_7 x b b2 b3 a r h hb h2 h3 i j
  have e : k5_pay2 v x b b2 b3 = mulf (broadcastTo S256x2048 (subf (broadcast S1x1 (Scalar.ofBits (F := Ideal) .f32 0x00000000#32))
      (mulf (broadcast S1x1 (Scalar.ofBits (F := Ideal) .f32 0x3F000000#32))
      (divf (broadcast S1x1 (Scalar.ofBits (F := Ideal) .f32 0x3F800000#32)) (addf (sqrt (shapeCast S1x1 v shapeCasts_S1x1_S1x1))
        (broadcast S1x1 (Scalar.ofBits (F := Ideal) .f32 0x2B8CBCCC#32)))))) broadcasts_S1x1_S256x2048) (k4_pay7 x b b2 b3) := rfl
  rw [e]
  obtain ⟨y, ey⟩ : ∃ y, k4_pay7 (F := Ideal) x b b2 b3 = y := ⟨_, rfl⟩
  rw [ey] at h7 ⊢
  pointwise []
  rw [h7, hv, eps_eq, ← EReal.coe_one, half_eq, alpha_eq s hs]
  norm_num [← EReal.coe_mul]
end

section
variable (x y z : FVec Ideal S256x2048 .f32) (a b d : RMat 256 2048)

theorem k4_6 (h : Holds x a) : Holds (k4_pay6 x) a := fun i j => by
  unfold k4_pay6
  pointwise []
  exact h i j

theorem k4_1 (hx : Holds x a) (hy : Holds y b) (hz : Holds z d) : Holds (k4_pay1 x y z) (fun i j => a i j - d i j * b i j) := fun i j => by
  unfold k4_pay1
  pointwise []
  rw [hx i j, hy i j, hz i j, EReal.coe_sub, EReal.coe_mul]
theorem k4_2 (hx : Holds x a) (hy : Holds y b) (hz : Holds z d) : Holds (k4_pay2 x y z) (fun i j => a i j - d i j * b i j) := fun i j => by
  have h := k4_1 x y z a b d hx hy hz i j
  unfold k4_pay2
  pointwise []
  exact h
theorem k4_3 (hx : Holds x a) (hy : Holds y b) (hz : Holds z d) : Zero (k4_pay3 x y z) := fun i j => by
  have h := k4_1 x y z a b d hx hy hz i j
  unfold k4_pay3 k4_pay2
  pointwise []
  rw [h, sub_self_coe]
theorem k4_4 (hx : Holds x a) (hy : Holds y b) (hz : Holds z d) : Zero (k4_pay4 x y z) := fun i j => by
  have h := k4_3 x y z a b d hx hy hz i j
  unfold k4_pay4
  pointwise []
  exact h
theorem k4_5 (hx : Holds x a) (hy : Holds y b) (hz : Holds z d) : Zero (k4_pay5 x y z) := fun i j => by
  have h := k4_3 x y z a b d hx hy hz i j
  unfold k4_pay5 k4_pay4
  pointwise []
  rw [h, sub_zero]
theorem k5_1 (hx : Holds x a) (hy : Holds y b) : Holds (k5_pay1 y x) (fun i j => a i j + b i j) := fun i j => by
  unfold k5_pay1
  pointwise []
  rw [hx i j, hy i j, EReal.coe_add]
end

/-! ## The skew part -/

section
variable (x y : FVec Ideal S512x512 .f32) (p q : RMat 512 512)

theorem k2_2 (hx : Holds x p) (hy : Holds y q) : Holds (k2_pay2 x y) (fun i j => p i j - q j i) := fun i j => by
  unfold k2_pay2
  pointwise []
  rw [hx i j, hy j i, EReal.coe_sub]

theorem k2_3 (hx : Holds x p) (hy : Holds y q) (acc : FVec Ideal S8x128 .f32) :
    k2_pay3 x y acc (ix2 0 0) = acc (ix2 0 0) + ((∑ i, ∑ j, (p i j - q j i) * (p i j - q j i) : ℝ) : EReal) := by
  have h := k2_2 x y p q hx hy
  unfold k2_pay3
  obtain ⟨z, ez⟩ : ∃ z, k2_pay2 (F := Ideal) x y = z := ⟨_, rfl⟩
  rw [ez] at h ⊢
  pointwise []
  rw [← coe_sum]
  refine congrArg (_ + ·) (Finset.sum_congr rfl fun i _ => ?_)
  rw [← coe_sum]
  exact Finset.sum_congr rfl fun j _ => by rw [h i j, EReal.coe_mul]

theorem k2_1 : k2_pay1 (F := Ideal) (ix2 0 0) = 0 := by
  unfold k2_pay1
  pointwise []
end

end Cert.TailIdeal.Tail

end
-- ==== Proof.TailOut.lean ====
/- What the calls of the tail leave in their blocks, and which block of which array each point reads and writes. -/
module

public import proofs.«01_k».proof.Proof.Gen.TailIdeal.Frame
public import proofs.«01_k».proof.Proof.TailPay
public import Idealize.ShloMosaic.Lib.Pipeline.Value

@[expose] public section

set_option maxRecDepth 16384

noncomputable section

namespace Cert.TailIdeal.Tail

open Cert.TailIdeal Cert.TailIdeal.Gen Idealize.ShloMosaic Idealize.ShloMosaic.TcCoe Cert.TailSpec

theorem zz : (![0, 0] : Fin 2 → ℕ) = fun _ => 0 := by funext a; fin_cases a <;> rfl

/-- Row `i` of the `t`-th block of 256 rows. -/
def row (t : Fin 8) (i : Fin 256) : Fin 2048 := ⟨256 * t.val + i.val, by omega⟩
def rowsOf (a : RMat 2048 2048) (t : Fin 8) : RMat 256 2048 := fun i j => a (row t i) j

/-- Index `i` of the `t`-th stretch of 512. -/
def seg (t : Fin 4) (i : Fin 512) : Fin 2048 := ⟨512 * t.val + i.val, by omega⟩

theorem mulT_rows (a b : RMat 2048 2048) (t : Fin 8) : mulT (rowsOf a t) b = rowsOf (mulT a b) t := rfl
theorem mulN_rows (a b : RMat 2048 2048) (t : Fin 8) : mulN (rowsOf a t) b = rowsOf (mulN a b) t := rfl

/-! ## The blocks' contents -/

theorem out0_1_eq (x0 : Vec Ideal S256x2048 .f32) : out0_1 x0 = k0_pay1 x0 := by
  unfold out0_1
  rw [View.canon_unit_zero zz]
  simp only [View.ld_unit_zero (S := S256x2048) zz, View.ld_unit_zero (S := S2048x2048) zz]
theorem out0_2_eq (x0 : Vec Ideal S256x2048 .f32) : out0_2 x0 = k0_pay3 x0 := by
  unfold out0_2
  rw [View.canon_unit_zero zz]
  simp only [View.ld_unit_zero (S := S256x2048) zz, View.ld_unit_zero (S := S2048x2048) zz]
theorem out0_3_eq (x0 : Vec Ideal S256x2048 .f32) : out0_3 x0 = k0_pay4 x0 := by
  unfold out0_3
  rw [View.canon_unit_zero zz]
  simp only [View.ld_unit_zero (S := S256x2048) zz, View.ld_unit_zero (S := S2048x2048) zz]
theorem out1_4_eq (x0 : Vec Ideal S256x2048 .f32) (x1 x2 x3 : Vec Ideal S2048x2048 .bf16) : out1_4 x0 x1 x2 x3 = k1_pay1 x0 x1 x2 x3 := by
  unfold out1_4
  rw [View.canon_unit_zero zz]
  simp only [View.ld_unit_zero (S := S256x2048) zz, View.ld_unit_zero (S := S2048x2048) zz]

/-- The corner of the square-sum block, as a one-by-one matrix. -/
abbrev corner (x4 : Vec Ideal S8x128 .f32) : Vec Ideal S1x1 .f32 := View.ld x4 r3_0
theorem corner_at (x4 : Vec Ideal S8x128 .f32) : corner x4 (ix2 0 0) = x4 (ix2 0 0) :=
  View.ld_unit_apply_of x4 _ _ _ _ _ (fun a => by fin_cases a <;> rfl)

theorem pay6_eq (x0 : Vec Ideal S256x2048 .f32) (x1 x2 x3 : Vec Ideal S2048x2048 .bf16) (x4 : Vec Ideal S8x128 .f32) : k3_pay6 x0 x1 x2 x3 x4 = k3_pay5 (corner x4) x0 x1 x2 x3 := by
  unfold k3_pay6
  simp only [View.ld_unit_zero (S := S256x2048) zz, View.ld_unit_zero (S := S2048x2048) zz]
theorem pay9_eq (x0 : Vec Ideal S256x2048 .f32) (x1 x2 x3 : Vec Ideal S2048x2048 .bf16) (x4 : Vec Ideal S8x128 .f32) (x5 : Vec Ideal S256x2048 .f32) : k4_pay9 x0 x1 x2 x3 x4 x5 = k4_pay6 x5 := by
  unfold k4_pay9
  simp only [View.ld_unit_zero (S := S256x2048) zz, View.ld_unit_zero (S := S2048x2048) zz]
theorem pay10_eq (x0 : Vec Ideal S256x2048 .f32) (x1 x2 x3 : Vec Ideal S2048x2048 .bf16) (x4 : Vec Ideal S8x128 .f32) (x5 : Vec Ideal S256x2048 .f32) : k4_pay10 x0 x1 x2 x3 x4 x5 = k4_pay7 x0 x1 x2 x3 := by
  unfold k4_pay10
  simp only [View.ld_unit_zero (S := S256x2048) zz, View.ld_unit_zero (S := S2048x2048) zz]
theorem pay11_eq (x0 : Vec Ideal S256x2048 .f32) (x1 x2 x3 : Vec Ideal S2048x2048 .bf16) (x4 : Vec Ideal S8x128 .f32) (x5 : Vec Ideal S256x2048 .f32) : k4_pay11 x0 x1 x2 x3 x4 x5 = k4_pay8 (corner x4) := rfl
theorem pay53_eq (x0 : Vec Ideal S256x2048 .f32) (x1 x2 x3 : Vec Ideal S2048x2048 .bf16) (x4 : Vec Ideal S8x128 .f32) (x5 : Vec Ideal S256x2048 .f32) : k5_pay3 x0 x1 x2 x3 x4 x5 = k5_pay2 (corner x4) x0 x1 x2 x3 := by
  unfold k5_pay3
  simp only [View.ld_unit_zero (S := S256x2048) zz, View.ld_unit_zero (S := S2048x2048) zz]
theorem out3_5_eq (x0 : Vec Ideal S256x2048 .f32) (x1 x2 x3 : Vec Ideal S2048x2048 .bf16) (x4 : Vec Ideal S8x128 .f32) : out3_5 x0 x1 x2 x3 x4 = k3_pay5 (corner x4) x0 x1 x2 x3 := by
  unfold out3_5
  rw [View.canon_unit_zero zz, pay6_eq]
theorem out3_6_eq (x0 : Vec Ideal S256x2048 .f32) (x1 x2 x3 : Vec Ideal S2048x2048 .bf16) (x4 : Vec Ideal S8x128 .f32) : out3_6 x0 x1 x2 x3 x4 = k3_pay1 (k3_pay5 (corner x4) x0 x1 x2 x3) := by
  unfold out3_6
  rw [View.canon_unit_zero zz, pay6_eq]
theorem out3_7_eq (x0 : Vec Ideal S256x2048 .f32) (x1 x2 x3 : Vec Ideal S2048x2048 .bf16) (x4 : Vec Ideal S8x128 .f32) : out3_7 x0 x1 x2 x3 x4 = k3_pay3 (k3_pay5 (corner x4) x0 x1 x2 x3) := by
  unfold out3_7
  rw [View.canon_unit_zero zz, pay6_eq]
theorem out3_8_eq (x0 : Vec Ideal S256x2048 .f32) (x1 x2 x3 : Vec Ideal S2048x2048 .bf16) (x4 : Vec Ideal S8x128 .f32) : out3_8 x0 x1 x2 x3 x4 = k3_pay4 (k3_pay5 (corner x4) x0 x1 x2 x3) := by
  unfold out3_8
  rw [View.canon_unit_zero zz, pay6_eq]
theorem out4_6_eq (x0 : Vec Ideal S256x2048 .f32) (x1 x2 x3 : Vec Ideal S2048x2048 .bf16) (x4 : Vec Ideal S8x128 .f32) (x5 : Vec Ideal S256x2048 .f32) : out4_6 x0 x1 x2 x3 x4 x5 = k4_pay2 (k4_pay6 x5) (k4_pay7 x0 x1 x2 x3) (k4_pay8 (corner x4)) := by
  unfold out4_6
  rw [View.canon_unit_zero zz, pay9_eq, pay10_eq, pay11_eq]
theorem out4_7_eq (x0 : Vec Ideal S256x2048 .f32) (x1 x2 x3 : Vec Ideal S2048x2048 .bf16) (x4 : Vec Ideal S8x128 .f32) (x5 : Vec Ideal S256x2048 .f32) : out4_7 x0 x1 x2 x3 x4 x5 = k4_pay4 (k4_pay6 x5) (k4_pay7 x0 x1 x2 x3) (k4_pay8 (corner x4)) := by
  unfold out4_7
  rw [View.canon_unit_zero zz, pay9_eq, pay10_eq, pay11_eq]
theorem out4_8_eq (x0 : Vec Ideal S256x2048 .f32) (x1 x2 x3 : Vec Ideal S2048x2048 .bf16) (x4 : Vec Ideal S8x128 .f32) (x5 : Vec Ideal S256x2048 .f32) : out4_8 x0 x1 x2 x3 x4 x5 = k4_pay5 (k4_pay6 x5) (k4_pay7 x0 x1 x2 x3) (k4_pay8 (corner x4)) := by
  unfold out4_8
  rw [View.canon_unit_zero zz, pay9_eq, pay10_eq, pay11_eq]
theorem out5_6_eq (x0 : Vec Ideal S256x2048 .f32) (x1 x2 x3 : Vec Ideal S2048x2048 .bf16) (x4 : Vec Ideal S8x128 .f32) (x5 : Vec Ideal S256x2048 .f32) : out5_6 x0 x1 x2 x3 x4 x5 = k5_pay1 (k5_pay2 (corner x4) x0 x1 x2 x3) x5 := by
  unfold out5_6
  rw [View.canon_unit_zero zz, pay53_eq]
  simp only [View.ld_unit_zero (S := S256x2048) zz, View.ld_unit_zero (S := S2048x2048) zz]
theorem out5_7_eq (x0 : Vec Ideal S256x2048 .f32) (x1 x2 x3 : Vec Ideal S2048x2048 .bf16) (x4 : Vec Ideal S8x128 .f32) (x5 : Vec Ideal S256x2048 .f32) : out5_7 x0 x1 x2 x3 x4 x5 = k5_pay2 (corner x4) x0 x1 x2 x3 := by
  unfold out5_7
  rw [View.canon_unit_zero zz, pay53_eq]

/-! ## The skew part's two cases -/

theorem skew_A_2 (c : Dev nD) (i : grid2.Coords) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S8x128 .f32) (h5 : a5.IsWhole) (hc : cond2_0 i) (x y : Vec Ideal S512x512 .f32) :
    out2_A_2 c i a2 h2 a3 h3 a4 h4 a5 h5 hc x y = k2_pay2 x y := by
  unfold out2_A_2
  rw [View.read_writes_eq_canon _ _ _ (cover2_A_2 c i a2 h2 a3 h3 a4 h4 a5 h5 hc x y)]
  unfold kernelRun2_A
  dsimp only
  sl_unfold_words
  rw [View.canon_cons_unit_zero (S := S512x512) zz]
  simp only [View.readAt_eq_ld, h2.read_unread, h3.read_unread, h5.read_unread, View.ld_unit_zero (S := S512x512) zz, View.ld_unit_zero (S := S8x128) zz]
theorem skew_A_3 (c : Dev nD) (i : grid2.Coords) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S8x128 .f32) (h5 : a5.IsWhole) (hc : cond2_0 i) (x y : Vec Ideal S512x512 .f32) :
    out2_A_3 c i a2 h2 a3 h3 a4 h4 a5 h5 hc x y = k2_pay3 x y (k2_pay1 (F := Ideal)) := by
  unfold out2_A_3
  rw [View.read_writes_eq_canon _ _ _ (cover2_A_3 c i a2 h2 a3 h3 a4 h4 a5 h5 hc x y)]
  unfold kernelRun2_A
  dsimp only
  sl_unfold_words
  rw [View.canon_cons_unit_zero (S := S8x128) zz, View.readCov_unit_zero (S := S8x128) _ zz]
  simp only [View.readAt_eq_ld, h2.read_unread, h3.read_unread, h5.read_unread, View.ld_unit_zero (S := S512x512) zz, View.ld_unit_zero (S := S8x128) zz]
theorem skew_B_2 (c : Dev nD) (i : grid2.Coords) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S8x128 .f32) (h5 : a5.IsWhole) (hc : ¬cond2_0 i) (x y : Vec Ideal S512x512 .f32) (xo : Vec Ideal S8x128 .f32) :
    out2_B_2 c i a2 h2 a3 h3 a4 h4 a5 h5 hc x y xo = k2_pay2 x y := by
  unfold out2_B_2
  rw [View.read_writes_eq_canon _ _ _ (cover2_B_2 c i a2 h2 a3 h3 a4 h4 a5 h5 hc x y xo)]
  unfold kernelRun2_B
  dsimp only
  sl_unfold_words
  rw [View.canon_cons_unit_zero (S := S512x512) zz]
  simp only [View.readAt_eq_ld, h2.read_unread, h3.read_unread, h5.read_unread, View.ld_unit_zero (S := S512x512) zz, View.ld_unit_zero (S := S8x128) zz]
theorem skew_B_3 (c : Dev nD) (i : grid2.Coords) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S8x128 .f32) (h5 : a5.IsWhole) (hc : ¬cond2_0 i) (x y : Vec Ideal S512x512 .f32) (xo : Vec Ideal S8x128 .f32) :
    out2_B_3 c i a2 h2 a3 h3 a4 h4 a5 h5 hc x y xo = k2_pay3 x y xo := by
  unfold out2_B_3
  rw [View.read_writes_eq_canon _ _ _ (cover2_B_3 c i a2 h2 a3 h3 a4 h4 a5 h5 hc x y xo)]
  unfold kernelRun2_B
  dsimp only
  sl_unfold_words
  rw [View.canon_cons_unit_zero (S := S8x128) zz]
  simp only [View.readAt_eq_ld, h2.read_unread, h3.read_unread, h5.read_unread, View.ld_unit_zero (S := S512x512) zz, View.ld_unit_zero (S := S8x128) zz]

end Cert.TailIdeal.Tail

end
-- ==== Proof.TailArr.lean ====
/- The blocks and the arrays of the tail's calls: what a call reads of an array, and what its points write back together. -/
module

public import proofs.«01_k».proof.Proof.TailOut

@[expose] public section

set_option maxRecDepth 16384

noncomputable section

namespace Cert.TailIdeal.Tail

open Cert.TailIdeal Cert.TailIdeal.Gen Idealize.ShloMosaic Idealize.ShloMosaic.TcCoe Cert.TailSpec

-- the buffers when a call starts
variable (V : (c : Dev nD) → (b : Ref sig .tc) → Buf (Elt Ideal) ((c : Thread nD τ).loc b)) (c : Dev nD)

/-! ## Call 0 -/

theorem idx0 : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)
def pt0 (t : Fin cfg0.N) : Fin 8 := ⟨t.val, lt_of_lt_of_eq t.isLt N_0⟩
theorem rows0_0 (a : RMat 2048 2048) (h : Holds (n := 2048) (k := 2048) (φ := .f32) (V c main_arg1) a) (t : Fin cfg0.N) :
    Holds (n := 256) (k := 2048) (φ := .f32) (iblk0 V c 0 t) (rowsOf a (pt0 t)) := fun i j => by
  refine Eq.trans ?_ (h (row (pt0 t) i) j)
  unfold row pt0
  blk_ext [iblk0, idx0 t]
theorem arr0_1 (G : Fin 2048 → Fin 2048 → EReal)
    (hG : ∀ (t : Fin cfg0.N) a b, out0_1 (iblk0 V c 0 t) (ix2 a b) = G (row (pt0 t) a) b) :
    (dat0 V c).arrAt 1 cfg0.N = fun i => G (i 0) (i 1) := by
  refine (dat0 V c).arrAt_eq_of_covers 1 _ (by decide +kernel) fun t hf y => ?_
  have hG := hG t
  rw [after0_1]
  obtain ⟨z, ez⟩ : ∃ z, out0_1 (iblk0 V c 0 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt0; blk_simp [idx0 t]; exact (show 256 * t.val + (y 0).val = t.val * 256 + (y 0).val by omega)
  · blk_simp [idx0 t]; try omega
theorem arr0_2 (G : Fin 2048 → Fin 2048 → EReal)
    (hG : ∀ (t : Fin cfg0.N) a b, out0_2 (iblk0 V c 0 t) (ix2 a b) = G (row (pt0 t) a) b) :
    (dat0 V c).arrAt 2 cfg0.N = fun i => G (i 0) (i 1) := by
  refine (dat0 V c).arrAt_eq_of_covers 2 _ (by decide +kernel) fun t hf y => ?_
  have hG := hG t
  rw [after0_2]
  obtain ⟨z, ez⟩ : ∃ z, out0_2 (iblk0 V c 0 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt0; blk_simp [idx0 t]; exact (show 256 * t.val + (y 0).val = t.val * 256 + (y 0).val by omega)
  · blk_simp [idx0 t]; try omega
theorem arr0_3 (G : Fin 2048 → Fin 2048 → EReal)
    (hG : ∀ (t : Fin cfg0.N) a b, out0_3 (iblk0 V c 0 t) (ix2 a b) = G (row (pt0 t) a) b) :
    (dat0 V c).arrAt 3 cfg0.N = fun i => G (i 0) (i 1) := by
  refine (dat0 V c).arrAt_eq_of_covers 3 _ (by decide +kernel) fun t hf y => ?_
  have hG := hG t
  rw [after0_3]
  obtain ⟨z, ez⟩ : ∃ z, out0_3 (iblk0 V c 0 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt0; blk_simp [idx0 t]; exact (show 256 * t.val + (y 0).val = t.val * 256 + (y 0).val by omega)
  · blk_simp [idx0 t]; try omega
/-! ## Call 1 -/

theorem idx1 : ∀ t : Fin cfg1.N, win1_0.index t = ![t.val, 0] ∧ win1_1.index t = ![0, 0] ∧ win1_2.index t = ![0, 0] ∧ win1_3.index t = ![0, 0] ∧ win1_4.index t = ![t.val, 0] :=
  (by decide +kernel : ∀ t : Fin grid1.N, _)
def pt1 (t : Fin cfg1.N) : Fin 8 := ⟨t.val, lt_of_lt_of_eq t.isLt N_1⟩
theorem rows1_0 (a : RMat 2048 2048) (h : Holds (n := 2048) (k := 2048) (φ := .f32) (V c main_arg0) a) (t : Fin cfg1.N) :
    Holds (n := 256) (k := 2048) (φ := .f32) (iblk1 V c 0 t) (rowsOf a (pt1 t)) := fun i j => by
  refine Eq.trans ?_ (h (row (pt1 t) i) j)
  unfold row pt1
  blk_ext [iblk1, idx1 t]
theorem whole1_1 (t : Fin cfg1.N) (i j : Fin 2048) :
    (iblk1 V c 1 t : FVec Ideal S2048x2048 .bf16) (ix2 i j) = (V c main_v0_0 : FVec Ideal S2048x2048 .bf16) (ix2 i j) := by
  blk_ext [iblk1, idx1 t]
theorem whole1_2 (t : Fin cfg1.N) (i j : Fin 2048) :
    (iblk1 V c 2 t : FVec Ideal S2048x2048 .bf16) (ix2 i j) = (V c main_v0_1 : FVec Ideal S2048x2048 .bf16) (ix2 i j) := by
  blk_ext [iblk1, idx1 t]
theorem whole1_3 (t : Fin cfg1.N) (i j : Fin 2048) :
    (iblk1 V c 3 t : FVec Ideal S2048x2048 .bf16) (ix2 i j) = (V c main_v0_2 : FVec Ideal S2048x2048 .bf16) (ix2 i j) := by
  blk_ext [iblk1, idx1 t]
theorem arr1_4 (G : Fin 2048 → Fin 2048 → EReal)
    (hG : ∀ (t : Fin cfg1.N) a b, out1_4 (iblk1 V c 0 t) (iblk1 V c 1 t) (iblk1 V c 2 t) (iblk1 V c 3 t) (ix2 a b) = G (row (pt1 t) a) b) :
    (dat1 V c).arrAt 4 cfg1.N = fun i => G (i 0) (i 1) := by
  refine (dat1 V c).arrAt_eq_of_covers 4 _ (by decide +kernel) fun t hf y => ?_
  have hG := hG t
  rw [after1_4]
  obtain ⟨z, ez⟩ : ∃ z, out1_4 (iblk1 V c 0 t) (iblk1 V c 1 t) (iblk1 V c 2 t) (iblk1 V c 3 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt1; blk_simp [idx1 t]; exact (show 256 * t.val + (y 0).val = t.val * 256 + (y 0).val by omega)
  · blk_simp [idx1 t]; try omega
/-! ## Call 3 -/

theorem idx3 : ∀ t : Fin cfg3.N, win3_0.index t = ![t.val, 0] ∧ win3_1.index t = ![0, 0] ∧ win3_2.index t = ![0, 0] ∧ win3_3.index t = ![0, 0] ∧ win3_4.index t = ![0, 0] ∧ win3_5.index t = ![t.val, 0] ∧ win3_6.index t = ![t.val, 0] ∧ win3_7.index t = ![t.val, 0] ∧ win3_8.index t = ![t.val, 0] :=
  (by decide +kernel : ∀ t : Fin grid3.N, _)
def pt3 (t : Fin cfg3.N) : Fin 8 := ⟨t.val, lt_of_lt_of_eq t.isLt N_3⟩
theorem rows3_0 (a : RMat 2048 2048) (h : Holds (n := 2048) (k := 2048) (φ := .f32) (V c main_v2_0) a) (t : Fin cfg3.N) :
    Holds (n := 256) (k := 2048) (φ := .f32) (iblk3 V c 0 t) (rowsOf a (pt3 t)) := fun i j => by
  refine Eq.trans ?_ (h (row (pt3 t) i) j)
  unfold row pt3
  blk_ext [iblk3, idx3 t]
theorem whole3_1 (t : Fin cfg3.N) (i j : Fin 2048) :
    (iblk3 V c 1 t : FVec Ideal S2048x2048 .bf16) (ix2 i j) = (V c main_v0_0 : FVec Ideal S2048x2048 .bf16) (ix2 i j) := by
  blk_ext [iblk3, idx3 t]
theorem whole3_2 (t : Fin cfg3.N) (i j : Fin 2048) :
    (iblk3 V c 2 t : FVec Ideal S2048x2048 .bf16) (ix2 i j) = (V c main_v0_1 : FVec Ideal S2048x2048 .bf16) (ix2 i j) := by
  blk_ext [iblk3, idx3 t]
theorem whole3_3 (t : Fin cfg3.N) (i j : Fin 2048) :
    (iblk3 V c 3 t : FVec Ideal S2048x2048 .bf16) (ix2 i j) = (V c main_v0_2 : FVec Ideal S2048x2048 .bf16) (ix2 i j) := by
  blk_ext [iblk3, idx3 t]
theorem acc3_4 (t : Fin cfg3.N) :
    (iblk3 V c 4 t : FVec Ideal S8x128 .f32) (ix2 0 0) = (V c main_v2_1 : FVec Ideal S8x128 .f32) (ix2 0 0) := by
  blk_ext [iblk3, idx3 t]
theorem arr3_5 (G : Fin 2048 → Fin 2048 → EReal)
    (hG : ∀ (t : Fin cfg3.N) a b, out3_5 (iblk3 V c 0 t) (iblk3 V c 1 t) (iblk3 V c 2 t) (iblk3 V c 3 t) (iblk3 V c 4 t) (ix2 a b) = G (row (pt3 t) a) b) :
    (dat3 V c).arrAt 5 cfg3.N = fun i => G (i 0) (i 1) := by
  refine (dat3 V c).arrAt_eq_of_covers 5 _ (by decide +kernel) fun t hf y => ?_
  have hG := hG t
  rw [after3_5]
  obtain ⟨z, ez⟩ : ∃ z, out3_5 (iblk3 V c 0 t) (iblk3 V c 1 t) (iblk3 V c 2 t) (iblk3 V c 3 t) (iblk3 V c 4 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt3; blk_simp [idx3 t]; exact (show 256 * t.val + (y 0).val = t.val * 256 + (y 0).val by omega)
  · blk_simp [idx3 t]; try omega
theorem arr3_6 (G : Fin 2048 → Fin 2048 → EReal)
    (hG : ∀ (t : Fin cfg3.N) a b, out3_6 (iblk3 V c 0 t) (iblk3 V c 1 t) (iblk3 V c 2 t) (iblk3 V c 3 t) (iblk3 V c 4 t) (ix2 a b) = G (row (pt3 t) a) b) :
    (dat3 V c).arrAt 6 cfg3.N = fun i => G (i 0) (i 1) := by
  refine (dat3 V c).arrAt_eq_of_covers 6 _ (by decide +kernel) fun t hf y => ?_
  have hG := hG t
  rw [after3_6]
  obtain ⟨z, ez⟩ : ∃ z, out3_6 (iblk3 V c 0 t) (iblk3 V c 1 t) (iblk3 V c 2 t) (iblk3 V c 3 t) (iblk3 V c 4 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt3; blk_simp [idx3 t]; exact (show 256 * t.val + (y 0).val = t.val * 256 + (y 0).val by omega)
  · blk_simp [idx3 t]; try omega
theorem arr3_7 (G : Fin 2048 → Fin 2048 → EReal)
    (hG : ∀ (t : Fin cfg3.N) a b, out3_7 (iblk3 V c 0 t) (iblk3 V c 1 t) (iblk3 V c 2 t) (iblk3 V c 3 t) (iblk3 V c 4 t) (ix2 a b) = G (row (pt3 t) a) b) :
    (dat3 V c).arrAt 7 cfg3.N = fun i => G (i 0) (i 1) := by
  refine (dat3 V c).arrAt_eq_of_covers 7 _ (by decide +kernel) fun t hf y => ?_
  have hG := hG t
  rw [after3_7]
  obtain ⟨z, ez⟩ : ∃ z, out3_7 (iblk3 V c 0 t) (iblk3 V c 1 t) (iblk3 V c 2 t) (iblk3 V c 3 t) (iblk3 V c 4 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt3; blk_simp [idx3 t]; exact (show 256 * t.val + (y 0).val = t.val * 256 + (y 0).val by omega)
  · blk_simp [idx3 t]; try omega
theorem arr3_8 (G : Fin 2048 → Fin 2048 → EReal)
    (hG : ∀ (t : Fin cfg3.N) a b, out3_8 (iblk3 V c 0 t) (iblk3 V c 1 t) (iblk3 V c 2 t) (iblk3 V c 3 t) (iblk3 V c 4 t) (ix2 a b) = G (row (pt3 t) a) b) :
    (dat3 V c).arrAt 8 cfg3.N = fun i => G (i 0) (i 1) := by
  refine (dat3 V c).arrAt_eq_of_covers 8 _ (by decide +kernel) fun t hf y => ?_
  have hG := hG t
  rw [after3_8]
  obtain ⟨z, ez⟩ : ∃ z, out3_8 (iblk3 V c 0 t) (iblk3 V c 1 t) (iblk3 V c 2 t) (iblk3 V c 3 t) (iblk3 V c 4 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt3; blk_simp [idx3 t]; exact (show 256 * t.val + (y 0).val = t.val * 256 + (y 0).val by omega)
  · blk_simp [idx3 t]; try omega
/-! ## Call 4 -/

theorem idx4 : ∀ t : Fin cfg4.N, win4_0.index t = ![t.val, 0] ∧ win4_1.index t = ![0, 0] ∧ win4_2.index t = ![0, 0] ∧ win4_3.index t = ![0, 0] ∧ win4_4.index t = ![0, 0] ∧ win4_5.index t = ![t.val, 0] ∧ win4_6.index t = ![t.val, 0] ∧ win4_7.index t = ![t.val, 0] ∧ win4_8.index t = ![t.val, 0] :=
  (by decide +kernel : ∀ t : Fin grid4.N, _)
def pt4 (t : Fin cfg4.N) : Fin 8 := ⟨t.val, lt_of_lt_of_eq t.isLt N_4⟩
theorem rows4_0 (a : RMat 2048 2048) (h : Holds (n := 2048) (k := 2048) (φ := .f32) (V c main_v2_0) a) (t : Fin cfg4.N) :
    Holds (n := 256) (k := 2048) (φ := .f32) (iblk4 V c 0 t) (rowsOf a (pt4 t)) := fun i j => by
  refine Eq.trans ?_ (h (row (pt4 t) i) j)
  unfold row pt4
  blk_ext [iblk4, idx4 t]
theorem rows4_5 (a : RMat 2048 2048) (h : Holds (n := 2048) (k := 2048) (φ := .f32) (V c main_v3_0) a) (t : Fin cfg4.N) :
    Holds (n := 256) (k := 2048) (φ := .f32) (iblk4 V c 5 t) (rowsOf a (pt4 t)) := fun i j => by
  refine Eq.trans ?_ (h (row (pt4 t) i) j)
  unfold row pt4
  blk_ext [iblk4, idx4 t]
theorem whole4_1 (t : Fin cfg4.N) (i j : Fin 2048) :
    (iblk4 V c 1 t : FVec Ideal S2048x2048 .bf16) (ix2 i j) = (V c main_v3_1 : FVec Ideal S2048x2048 .bf16) (ix2 i j) := by
  blk_ext [iblk4, idx4 t]
theorem whole4_2 (t : Fin cfg4.N) (i j : Fin 2048) :
    (iblk4 V c 2 t : FVec Ideal S2048x2048 .bf16) (ix2 i j) = (V c main_v3_2 : FVec Ideal S2048x2048 .bf16) (ix2 i j) := by
  blk_ext [iblk4, idx4 t]
theorem whole4_3 (t : Fin cfg4.N) (i j : Fin 2048) :
    (iblk4 V c 3 t : FVec Ideal S2048x2048 .bf16) (ix2 i j) = (V c main_v3_3 : FVec Ideal S2048x2048 .bf16) (ix2 i j) := by
  blk_ext [iblk4, idx4 t]
theorem acc4_4 (t : Fin cfg4.N) :
    (iblk4 V c 4 t : FVec Ideal S8x128 .f32) (ix2 0 0) = (V c main_v2_1 : FVec Ideal S8x128 .f32) (ix2 0 0) := by
  blk_ext [iblk4, idx4 t]
theorem arr4_6 (G : Fin 2048 → Fin 2048 → EReal)
    (hG : ∀ (t : Fin cfg4.N) a b, out4_6 (iblk4 V c 0 t) (iblk4 V c 1 t) (iblk4 V c 2 t) (iblk4 V c 3 t) (iblk4 V c 4 t) (iblk4 V c 5 t) (ix2 a b) = G (row (pt4 t) a) b) :
    (dat4 V c).arrAt 6 cfg4.N = fun i => G (i 0) (i 1) := by
  refine (dat4 V c).arrAt_eq_of_covers 6 _ (by decide +kernel) fun t hf y => ?_
  have hG := hG t
  rw [after4_6]
  obtain ⟨z, ez⟩ : ∃ z, out4_6 (iblk4 V c 0 t) (iblk4 V c 1 t) (iblk4 V c 2 t) (iblk4 V c 3 t) (iblk4 V c 4 t) (iblk4 V c 5 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt4; blk_simp [idx4 t]; exact (show 256 * t.val + (y 0).val = t.val * 256 + (y 0).val by omega)
  · blk_simp [idx4 t]; try omega
theorem arr4_7 (G : Fin 2048 → Fin 2048 → EReal)
    (hG : ∀ (t : Fin cfg4.N) a b, out4_7 (iblk4 V c 0 t) (iblk4 V c 1 t) (iblk4 V c 2 t) (iblk4 V c 3 t) (iblk4 V c 4 t) (iblk4 V c 5 t) (ix2 a b) = G (row (pt4 t) a) b) :
    (dat4 V c).arrAt 7 cfg4.N = fun i => G (i 0) (i 1) := by
  refine (dat4 V c).arrAt_eq_of_covers 7 _ (by decide +kernel) fun t hf y => ?_
  have hG := hG t
  rw [after4_7]
  obtain ⟨z, ez⟩ : ∃ z, out4_7 (iblk4 V c 0 t) (iblk4 V c 1 t) (iblk4 V c 2 t) (iblk4 V c 3 t) (iblk4 V c 4 t) (iblk4 V c 5 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt4; blk_simp [idx4 t]; exact (show 256 * t.val + (y 0).val = t.val * 256 + (y 0).val by omega)
  · blk_simp [idx4 t]; try omega
theorem arr4_8 (G : Fin 2048 → Fin 2048 → EReal)
    (hG : ∀ (t : Fin cfg4.N) a b, out4_8 (iblk4 V c 0 t) (iblk4 V c 1 t) (iblk4 V c 2 t) (iblk4 V c 3 t) (iblk4 V c 4 t) (iblk4 V c 5 t) (ix2 a b) = G (row (pt4 t) a) b) :
    (dat4 V c).arrAt 8 cfg4.N = fun i => G (i 0) (i 1) := by
  refine (dat4 V c).arrAt_eq_of_covers 8 _ (by decide +kernel) fun t hf y => ?_
  have hG := hG t
  rw [after4_8]
  obtain ⟨z, ez⟩ : ∃ z, out4_8 (iblk4 V c 0 t) (iblk4 V c 1 t) (iblk4 V c 2 t) (iblk4 V c 3 t) (iblk4 V c 4 t) (iblk4 V c 5 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt4; blk_simp [idx4 t]; exact (show 256 * t.val + (y 0).val = t.val * 256 + (y 0).val by omega)
  · blk_simp [idx4 t]; try omega
/-! ## Call 5 -/

theorem idx5 : ∀ t : Fin cfg5.N, win5_0.index t = ![t.val, 0] ∧ win5_1.index t = ![0, 0] ∧ win5_2.index t = ![0, 0] ∧ win5_3.index t = ![0, 0] ∧ win5_4.index t = ![0, 0] ∧ win5_5.index t = ![t.val, 0] ∧ win5_6.index t = ![t.val, 0] ∧ win5_7.index t = ![t.val, 0] :=
  (by decide +kernel : ∀ t : Fin grid5.N, _)
def pt5 (t : Fin cfg5.N) : Fin 8 := ⟨t.val, lt_of_lt_of_eq t.isLt N_5⟩
theorem rows5_0 (a : RMat 2048 2048) (h : Holds (n := 2048) (k := 2048) (φ := .f32) (V c main_v2_0) a) (t : Fin cfg5.N) :
    Holds (n := 256) (k := 2048) (φ := .f32) (iblk5 V c 0 t) (rowsOf a (pt5 t)) := fun i j => by
  refine Eq.trans ?_ (h (row (pt5 t) i) j)
  unfold row pt5
  blk_ext [iblk5, idx5 t]
theorem rows5_5 (a : RMat 2048 2048) (h : Holds (n := 2048) (k := 2048) (φ := .f32) (V c main_v3_0) a) (t : Fin cfg5.N) :
    Holds (n := 256) (k := 2048) (φ := .f32) (iblk5 V c 5 t) (rowsOf a (pt5 t)) := fun i j => by
  refine Eq.trans ?_ (h (row (pt5 t) i) j)
  unfold row pt5
  blk_ext [iblk5, idx5 t]
theorem whole5_1 (t : Fin cfg5.N) (i j : Fin 2048) :
    (iblk5 V c 1 t : FVec Ideal S2048x2048 .bf16) (ix2 i j) = (V c main_v4_0 : FVec Ideal S2048x2048 .bf16) (ix2 i j) := by
  blk_ext [iblk5, idx5 t]
theorem whole5_2 (t : Fin cfg5.N) (i j : Fin 2048) :
    (iblk5 V c 2 t : FVec Ideal S2048x2048 .bf16) (ix2 i j) = (V c main_v4_1 : FVec Ideal S2048x2048 .bf16) (ix2 i j) := by
  blk_ext [iblk5, idx5 t]
theorem whole5_3 (t : Fin cfg5.N) (i j : Fin 2048) :
    (iblk5 V c 3 t : FVec Ideal S2048x2048 .bf16) (ix2 i j) = (V c main_v4_2 : FVec Ideal S2048x2048 .bf16) (ix2 i j) := by
  blk_ext [iblk5, idx5 t]
theorem acc5_4 (t : Fin cfg5.N) :
    (iblk5 V c 4 t : FVec Ideal S8x128 .f32) (ix2 0 0) = (V c main_v2_1 : FVec Ideal S8x128 .f32) (ix2 0 0) := by
  blk_ext [iblk5, idx5 t]
theorem arr5_6 (G : Fin 2048 → Fin 2048 → EReal)
    (hG : ∀ (t : Fin cfg5.N) a b, out5_6 (iblk5 V c 0 t) (iblk5 V c 1 t) (iblk5 V c 2 t) (iblk5 V c 3 t) (iblk5 V c 4 t) (iblk5 V c 5 t) (ix2 a b) = G (row (pt5 t) a) b) :
    (dat5 V c).arrAt 6 cfg5.N = fun i => G (i 0) (i 1) := by
  refine (dat5 V c).arrAt_eq_of_covers 6 _ (by decide +kernel) fun t hf y => ?_
  have hG := hG t
  rw [after5_6]
  obtain ⟨z, ez⟩ : ∃ z, out5_6 (iblk5 V c 0 t) (iblk5 V c 1 t) (iblk5 V c 2 t) (iblk5 V c 3 t) (iblk5 V c 4 t) (iblk5 V c 5 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt5; blk_simp [idx5 t]; exact (show 256 * t.val + (y 0).val = t.val * 256 + (y 0).val by omega)
  · blk_simp [idx5 t]; try omega
theorem arr5_7 (G : Fin 2048 → Fin 2048 → EReal)
    (hG : ∀ (t : Fin cfg5.N) a b, out5_7 (iblk5 V c 0 t) (iblk5 V c 1 t) (iblk5 V c 2 t) (iblk5 V c 3 t) (iblk5 V c 4 t) (iblk5 V c 5 t) (ix2 a b) = G (row (pt5 t) a) b) :
    (dat5 V c).arrAt 7 cfg5.N = fun i => G (i 0) (i 1) := by
  refine (dat5 V c).arrAt_eq_of_covers 7 _ (by decide +kernel) fun t hf y => ?_
  have hG := hG t
  rw [after5_7]
  obtain ⟨z, ez⟩ : ∃ z, out5_7 (iblk5 V c 0 t) (iblk5 V c 1 t) (iblk5 V c 2 t) (iblk5 V c 3 t) (iblk5 V c 4 t) (iblk5 V c 5 t) = z := ⟨_, rfl⟩
  rw [ez] at hG ⊢
  blk_simp
  refine ((congrArg z (eq_ix2 (n0 := 256) (n1 := 2048) y)).trans (hG (y 0) (y 1))).trans (congrArg₂ G (Fin.ext ?_) (Fin.ext ?_))
  · unfold row pt5; blk_simp [idx5 t]; exact (show 256 * t.val + (y 0).val = t.val * 256 + (y 0).val by omega)
  · blk_simp [idx5 t]; try omega

end Cert.TailIdeal.Tail

end
-- ==== Proof.TailSkew.lean ====
/- The call that forms the skew part and adds up its squares over sixteen blocks. -/
module

public import proofs.«01_k».proof.Proof.TailOut

@[expose] public section

set_option maxRecDepth 16384

noncomputable section

namespace Cert.TailIdeal.Tail

open Cert.TailIdeal Cert.TailIdeal.Gen Idealize.ShloMosaic Idealize.ShloMosaic.TcCoe Cert.TailSpec

-- the buffers when the call starts
variable (V : (c : Dev nD) → (b : Ref sig .tc) → Buf (Elt Ideal) ((c : Thread nD τ).loc b)) (c : Dev nD)

theorem idx2 : ∀ t : Fin cfg2.N, win2_0.index t = ![t.val / 4, t.val % 4] ∧ win2_1.index t = ![t.val % 4, t.val / 4]
    ∧ win2_2.index t = ![t.val / 4, t.val % 4] ∧ win2_3.index t = ![0, 0] :=
  (by decide +kernel : ∀ t : Fin grid2.N, _)

/-- The block row and the block column of a point. -/
def bi (n : ℕ) (h : n < 16) : Fin 4 := ⟨n / 4, by omega⟩
def bj (n : ℕ) : Fin 4 := ⟨n % 4, by omega⟩
theorem lt16 (t : Fin cfg2.N) : t.val < 16 := lt_of_lt_of_eq t.isLt N_2

def blkAt (p : RMat 2048 2048) (a b : Fin 4) : RMat 512 512 := fun i j => p (seg a i) (seg b j)

section
variable (p : RMat 2048 2048) (h : Holds (n := 2048) (k := 2048) (φ := .f32) (V c main_v1) p) (t : Fin cfg2.N)
include h

theorem blk2_0 : Holds (n := 512) (k := 512) (φ := .f32) (iblk2 V c 0 t) (blkAt p (bi t.val (lt16 t)) (bj t.val)) := fun i j => by
  refine Eq.trans ?_ (h (seg (bi t.val (lt16 t)) i) (seg (bj t.val) j))
  unfold seg bi bj
  blk_ext [iblk2, idx2 t]

theorem blk2_1 : Holds (n := 512) (k := 512) (φ := .f32) (iblk2 V c 1 t) (blkAt p (bj t.val) (bi t.val (lt16 t))) := fun i j => by
  refine Eq.trans ?_ (h (seg (bj t.val) i) (seg (bi t.val (lt16 t)) j))
  unfold seg bi bj
  blk_ext [iblk2, idx2 t]
end

/-- What each point leaves. -/
theorem step1 (t : Fin cfg2.N) : (outsAt2 V c t.val t.isLt).1 = k2_pay2 (iblk2 V c 0 t) (iblk2 V c 1 t) := by
  by_cases h0 : t.val % 16 = 0
  · rw [outsAt2_A V c t h0]
    dsimp only
    exact skew_A_2 c (grid2.coords t) (ms2_0 t) (hs2_0 t) (ms2_1 t) (hs2_1 t) (ms2_2 t) (hs2_2 t) (ms2_3 t) (hs2_3 t) ((hcond2_0 t).mpr h0) _ _
  · rw [outsAt2_B V c t h0]
    dsimp only
    exact skew_B_2 c (grid2.coords t) (ms2_0 t) (hs2_0 t) (ms2_1 t) (hs2_1 t) (ms2_2 t) (hs2_2 t) (ms2_3 t) (hs2_3 t) (fun h => h0 ((hcond2_0 t).mp h)) _ _ _

theorem step2_first (t : Fin cfg2.N) (h0 : t.val % 16 = 0) :
    (outsAt2 V c t.val t.isLt).2 = k2_pay3 (iblk2 V c 0 t) (iblk2 V c 1 t) (k2_pay1 (F := Ideal)) := by
  rw [outsAt2_A V c t h0]
  dsimp only
  exact skew_A_3 c (grid2.coords t) (ms2_0 t) (hs2_0 t) (ms2_1 t) (hs2_1 t) (ms2_2 t) (hs2_2 t) (ms2_3 t) (hs2_3 t) ((hcond2_0 t).mpr h0) _ _
theorem step2_next (t : Fin cfg2.N) (h0 : ¬t.val % 16 = 0) :
    (outsAt2 V c t.val t.isLt).2 = k2_pay3 (iblk2 V c 0 t) (iblk2 V c 1 t)
      (outsAt2 V c (t.val - 1) (Nat.lt_of_le_of_lt (Nat.sub_le _ _) t.isLt)).2 := by
  rw [outsAt2_B V c t h0]
  dsimp only
  exact skew_B_3 c (grid2.coords t) (ms2_0 t) (hs2_0 t) (ms2_1 t) (hs2_1 t) (ms2_2 t) (hs2_2 t) (ms2_3 t) (hs2_3 t) (fun h => h0 ((hcond2_0 t).mp h)) _ _ _

/-- The squares of one block of the skew part. -/
def part (p : RMat 2048 2048) (a b : Fin 4) : ℝ := ∑ i, ∑ j, skew p (seg a i) (seg b j) * skew p (seg a i) (seg b j)
def partN (p : RMat 2048 2048) (n : ℕ) : ℝ := if h : n < 16 then part p (bi n h) (bj n) else 0

theorem step_at (p : RMat 2048 2048) (h : Holds (n := 2048) (k := 2048) (φ := .f32) (V c main_v1) p) (t : Fin cfg2.N) (acc : FVec Ideal S8x128 .f32) :
    k2_pay3 (iblk2 V c 0 t) (iblk2 V c 1 t) acc (ix2 0 0) = acc (ix2 0 0) + ((partN p t.val : ℝ) : EReal) := by
  refine (k2_3 _ _ _ _ (blk2_0 V c p h t) (blk2_1 V c p h t) acc).trans ?_
  rw [partN, dif_pos (lt16 t)]
  rfl

theorem sum_at (p : RMat 2048 2048) (h : Holds (n := 2048) (k := 2048) (φ := .f32) (V c main_v1) p) : ∀ (n : ℕ) (hn : n < cfg2.N),
    (outsAt2 V c n hn).2 (ix2 0 0) = ((∑ q ∈ Finset.range (n + 1), partN p q : ℝ) : EReal)
  | 0, hn => by
    refine (congrFun (step2_first V c ⟨0, hn⟩ rfl) (ix2 0 0)).trans ?_
    rw [step_at V c p h ⟨0, hn⟩, k2_1, zero_add, Finset.sum_range_one]
  | n + 1, hn => by
    have hl : n + 1 < 16 := lt_of_lt_of_eq hn N_2
    refine (congrFun (step2_next V c ⟨n + 1, hn⟩ (by dsimp only; omega)) (ix2 0 0)).trans ?_
    rw [step_at V c p h ⟨n + 1, hn⟩, Finset.sum_range_succ, EReal.coe_add]
    exact congrArg (· + ((partN p (n + 1) : ℝ) : EReal)) (sum_at p h n (Nat.lt_of_succ_lt hn))

/-! ## The sixteen blocks make up the matrix -/

theorem sum_seg (f : Fin 2048 → ℝ) : ∑ a : Fin 4, ∑ i : Fin 512, f (seg a i) = ∑ i, f i := by
  rw [← Finset.sum_product', Finset.univ_product_univ]
  exact Fintype.sum_equiv (finProdFinEquiv (m := 4) (n := 512)) _ _ fun q => by
    refine congrArg f (Fin.ext ?_)
    show 512 * q.1.val + q.2.val = q.2.val + 512 * q.1.val
    omega

theorem sum_blocks (p : RMat 2048 2048) : ∑ q ∈ Finset.range 16, partN p q = ssum (skew p) := by
  have e : ∑ a : Fin 4, ∑ b : Fin 4, part p a b = ssum (skew p) := by
    unfold ssum part
    rw [← sum_seg]
    refine Finset.sum_congr rfl fun a _ => ?_
    rw [Finset.sum_comm]
    refine Finset.sum_congr rfl fun i _ => ?_
    exact sum_seg fun j => skew p (seg a i) j * skew p (seg a i) j
  rw [← e, Finset.sum_range, ← Finset.sum_product', Finset.univ_product_univ]
  symm
  exact Fintype.sum_equiv (finProdFinEquiv (m := 4) (n := 4)) _ _ fun q => by
    have h1 := q.1.isLt
    have h2 := q.2.isLt
    have hv : (finProdFinEquiv (m := 4) (n := 4) q).val = q.2.val + 4 * q.1.val := rfl
    have hl : (finProdFinEquiv (m := 4) (n := 4) q).val < 16 := (finProdFinEquiv (m := 4) (n := 4) q).isLt
    rw [partN, dif_pos hl]
    refine congrArg₂ (part p) (Fin.ext ?_) (Fin.ext ?_)
    · show q.1.val = (finProdFinEquiv (m := 4) (n := 4) q).val / 4; omega
    · show q.2.val = (finProdFinEquiv (m := 4) (n := 4) q).val % 4; omega

/-! ## The two arrays -/

theorem arr2_2 (G : Fin 2048 → Fin 2048 → EReal)
    (hG : ∀ (t : Fin cfg2.N) a b, (outsAt2 V c t.val t.isLt).1 (ix2 a b) = G (seg (bi t.val (lt16 t)) a) (seg (bj t.val) b)) :
    (dat2 V c).arrAt 2 cfg2.N = fun i => G (i 0) (i 1) := by
  refine (dat2 V c).arrAt_eq_of_covers 2 _ (by decide +kernel) fun t hf y => ?_
  have hG := hG t
  rw [after2_2]
  obtain ⟨z, ez⟩ : ∃ z, (outsAt2 V c t.val t.isLt).1 = z := ⟨_, rfl⟩
  rw [ez] at hG ⊢
  blk_simp
  refine ((congrArg z (eq_ix2 (n0 := 512) (n1 := 512) y)).trans (hG (y 0) (y 1))).trans (congrArg₂ G (Fin.ext ?_) (Fin.ext ?_))
  · unfold seg bi; blk_simp [idx2 t]; exact (show 512 * (t.val / 4) + (y 0).val = t.val / 4 * 512 + (y 0).val by omega)
  · unfold seg bj; blk_simp [idx2 t]; exact (show 512 * (t.val % 4) + (y 1).val = t.val % 4 * 512 + (y 1).val by omega)

abbrev tl2 : Fin cfg2.N := ⟨15, by decide +kernel⟩

theorem arr2_3 (G : Fin 8 → Fin 128 → EReal) (hG : ∀ a b, (outsAt2 V c tl2.val tl2.isLt).2 (ix2 a b) = G a b) :
    (dat2 V c).arrAt 3 cfg2.N = fun i => G (i 0) (i 1) := by
  refine (dat2 V c).arrAt_eq_of_after_last 3 tl2 (by decide +kernel) _ fun j => ?_
  rw [after2_3]
  obtain ⟨y, ey⟩ : ∃ y, (outsAt2 V c tl2.val tl2.isLt).2 = y := ⟨_, rfl⟩
  rw [ey] at hG ⊢
  blk_simp
  exact (congrArg y (eq_ix2 (n0 := 8) (n1 := 128) j)).trans (hG (j 0) (j 1))

theorem skew_holds (p : RMat 2048 2048) (h : Holds (n := 2048) (k := 2048) (φ := .f32) (V c main_v1) p) :
    Holds (n := 2048) (k := 2048) (φ := .f32) ((dat2 V c).arrAt 2 cfg2.N) (skew p) := fun i j =>
  congrFun (arr2_2 V c (fun i j => ((skew p i j : ℝ) : EReal)) fun t a b => by
    rw [step1]
    exact k2_2 _ _ _ _ (blk2_0 V c p h t) (blk2_1 V c p h t) a b) (ix2 i j)

theorem ssum_holds (p : RMat 2048 2048) (h : Holds (n := 2048) (k := 2048) (φ := .f32) (V c main_v1) p) :
    ((dat2 V c).arrAt 3 cfg2.N : FVec Ideal S8x128 .f32) (ix2 0 0) = ((ssum (skew p) : ℝ) : EReal) := by
  refine (congrFun (arr2_3 V c (fun a b => (outsAt2 V c tl2.val tl2.isLt).2 (ix2 a b)) fun a b => rfl) (ix2 0 0)).trans ?_
  refine (sum_at V c p h 15 tl2.isLt).trans ?_
  rw [sum_blocks]

end Cert.TailIdeal.Tail

end
-- ==== Proof.TailFold.lean ====
/- The tail's calls one after the other: what every array holds between them, and what the run leaves in the two results. -/
module

public import proofs.«01_k».proof.Proof.TailArr
public import proofs.«01_k».proof.Proof.TailSkew

@[expose] public section

set_option maxRecDepth 16384

noncomputable section

namespace Cert.TailIdeal.Tail

open Cert.TailIdeal Cert.TailIdeal.Gen Idealize.ShloMosaic Idealize.ShloMosaic.TcCoe Idealize.SL Idealize.SL.Sem Cert.TailSpec
open Idealize.ShloMosaic.Pipeline (Dat)

section
-- the buffers when a call starts
variable (V : (c : Dev nD) → (b : Ref sig .tc) → Buf (Elt Ideal) ((c : Thread nD τ).loc b)) (c : Dev nD)
variable (g r a d0 d1 : RMat 2048 2048) (s : ℝ)

/-! ## One call at a time -/

theorem call0_1 (h : Holds (n := 2048) (k := 2048) (φ := .f32) (V c main_arg1) r) : Holds (n := 2048) (k := 2048) (φ := .bf16) ((dat0 V c).arrAt 1 cfg0.N) r := fun i j =>
  congrFun (arr0_1 V c (fun i j => ((r i j : ℝ) : EReal)) fun t x y => by
    rw [out0_1_eq]; exact k0_1 _ _ (rows0_0 V c r h t) x y) (ix2 i j)
theorem call0_2 (h : Holds (n := 2048) (k := 2048) (φ := .f32) (V c main_arg1) r) : Zero (n := 2048) (k := 2048) (φ := .bf16) ((dat0 V c).arrAt 2 cfg0.N) := fun i j =>
  congrFun (arr0_2 V c (fun i j => 0) fun t x y => by
    rw [out0_2_eq]; exact k0_3 _ _ (rows0_0 V c r h t) x y) (ix2 i j)
theorem call0_3 (h : Holds (n := 2048) (k := 2048) (φ := .f32) (V c main_arg1) r) : Zero (n := 2048) (k := 2048) (φ := .bf16) ((dat0 V c).arrAt 3 cfg0.N) := fun i j =>
  congrFun (arr0_3 V c (fun i j => 0) fun t x y => by
    rw [out0_3_eq]; exact k0_4 _ _ (rows0_0 V c r h t) x y) (ix2 i j)

theorem call1_4 (h : Holds (n := 2048) (k := 2048) (φ := .f32) (V c main_arg0) g) (hb : Holds (n := 2048) (k := 2048) (φ := .bf16) (V c main_v0_0) r) (h2 : Zero (n := 2048) (k := 2048) (φ := .bf16) (V c main_v0_1)) (h3 : Zero (n := 2048) (k := 2048) (φ := .bf16) (V c main_v0_2)) :
    Holds (n := 2048) (k := 2048) (φ := .f32) ((dat1 V c).arrAt 4 cfg1.N) (mulT g r) := fun i j =>
  congrFun (arr1_4 V c (fun i j => ((mulT g r i j : ℝ) : EReal)) fun t x y => by
    rw [out1_4_eq]
    exact k1_1 _ _ _ _ _ _ (rows1_0 V c g h t) (fun i j => (whole1_1 V c t i j).trans (hb i j)) (fun i j => (whole1_2 V c t i j).trans (h2 i j)) (fun i j => (whole1_3 V c t i j).trans (h3 i j)) x y) (ix2 i j)

theorem block3 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v0_0) r) (h2 : Zero (n := 2048) (k := 2048) (φ := .bf16) (V c main_v0_1)) (h3 : Zero (n := 2048) (k := 2048) (φ := .bf16) (V c main_v0_2)) (t : Fin cfg3.N) :
    Holds (n := 256) (k := 2048) (φ := .f32) (k3_pay5 (corner (iblk3 V c 4 t)) (iblk3 V c 0 t) (iblk3 V c 1 t) (iblk3 V c 2 t) (iblk3 V c 3 t)) (rowsOf (delta0 s a r) (pt3 t)) :=
  k3_5 _ _ _ _ _ _ _ s hs ((corner_at _).trans ((acc3_4 V c t).trans hv)) (rows3_0 V c a h t) (fun i j => (whole3_1 V c t i j).trans (hb i j)) (fun i j => (whole3_2 V c t i j).trans (h2 i j)) (fun i j => (whole3_3 V c t i j).trans (h3 i j))
theorem call3_5 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v0_0) r) (h2 : Zero (n := 2048) (k := 2048) (φ := .bf16) (V c main_v0_1)) (h3 : Zero (n := 2048) (k := 2048) (φ := .bf16) (V c main_v0_2)) :
    Holds (n := 2048) (k := 2048) (φ := .f32) ((dat3 V c).arrAt 5 cfg3.N) (delta0 s a r) := fun i j =>
  congrFun (arr3_5 V c (fun i j => ((delta0 s a r i j : ℝ) : EReal)) fun t x y => by
    rw [out3_5_eq]; exact (block3 V c r a s hs hv h hb h2 h3 t) x y) (ix2 i j)
theorem call3_6 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v0_0) r) (h2 : Zero (n := 2048) (k := 2048) (φ := .bf16) (V c main_v0_1)) (h3 : Zero (n := 2048) (k := 2048) (φ := .bf16) (V c main_v0_2)) :
    Holds (n := 2048) (k := 2048) (φ := .bf16) ((dat3 V c).arrAt 6 cfg3.N) (delta0 s a r) := fun i j =>
  congrFun (arr3_6 V c (fun i j => ((delta0 s a r i j : ℝ) : EReal)) fun t x y => by
    rw [out3_6_eq]; exact k3_1 _ _ (block3 V c r a s hs hv h hb h2 h3 t) x y) (ix2 i j)
theorem call3_7 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v0_0) r) (h2 : Zero (n := 2048) (k := 2048) (φ := .bf16) (V c main_v0_1)) (h3 : Zero (n := 2048) (k := 2048) (φ := .bf16) (V c main_v0_2)) :
    Zero (n := 2048) (k := 2048) (φ := .bf16) ((dat3 V c).arrAt 7 cfg3.N) := fun i j =>
  congrFun (arr3_7 V c (fun i j => 0) fun t x y => by
    rw [out3_7_eq]; exact k3_3 _ _ (block3 V c r a s hs hv h hb h2 h3 t) x y) (ix2 i j)
theorem call3_8 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v0_0) r) (h2 : Zero (n := 2048) (k := 2048) (φ := .bf16) (V c main_v0_1)) (h3 : Zero (n := 2048) (k := 2048) (φ := .bf16) (V c main_v0_2)) :
    Zero (n := 2048) (k := 2048) (φ := .bf16) ((dat3 V c).arrAt 8 cfg3.N) := fun i j =>
  congrFun (arr3_8 V c (fun i j => 0) fun t x y => by
    rw [out3_8_eq]; exact k3_4 _ _ (block3 V c r a s hs hv h hb h2 h3 t) x y) (ix2 i j)
theorem call4_6 (hs : 0 ≤ s) (hv : (V c main_v2_1 : FVec Ideal S8x128 .f32) (ix2 0 0) = ((s : ℝ) : EReal)) (h : Holds (n := 2048) (k := 2048) (φ := .f32) (V c main_v2_0) a) (hd : Holds (n := 2048) (k := 2048) (φ := .f32) (V c main_v3_0) d0) (hb : Holds (n := 2048) (k := 2048) (φ := .bf16) (V c main_v3_1) d0) (h2 : Zero (n := 2048) (k := 2048) (φ := .bf16) (V c main_v3_2)) (h3 : Zero (n := 2048) (k := 2048) (φ := .bf16) (V c main_v3_3)) :
    Holds (n := 2048) (k := 2048) (φ := .bf16) ((dat4 V c).arrAt 6 cfg4.N) (fun i j => d0 i j - 1 / 2 * alpha s * mulN a d0 i j) := fun i j =>
  congrFun (arr4_6 V c (fun i j => ((d0 i j - 1 / 2 * alpha s * mulN a d0 i j : ℝ) : EReal)) fun t x y => by
    rw [out4_6_eq]
    exact k4_2 _ _ _ _ _ _ (k4_6 _ _ (rows4_5 V c d0 hd t)) (k4_7 _ _ _ _ _ _ (rows4_0 V c a h t) (fun i j => (whole4_1 V c t i j).trans (hb i j)) (fun i j => (whole4_2 V c t i j).trans (h2 i j)) (fun i j => (whole4_3 V c t i j).trans (h3 i j))) (k4_8 _ s hs ((corner_at _).trans ((acc4_4 V c t).trans hv))) x y) (ix2 i j)
theorem call4_7 (hs : 0 ≤ s) (hv : (V c main_v2_1 : FVec Ideal S8x128 .f32) (ix2 0 0) = ((s : ℝ) : EReal)) (h : Holds (n := 2048) (k := 2048) (φ := .f32) (V c main_v2_0) a) (hd : Holds (n := 2048) (k := 2048) (φ := .f32) (V c main_v3_0) d0) (hb : Holds (n := 2048) (k := 2048) (φ := .bf16) (V c main_v3_1) d0) (h2 : Zero (n := 2048) (k := 2048) (φ := .bf16) (V c main_v3_2)) (h3 : Zero (n := 2048) (k := 2048) (φ := .bf16) (V c main_v3_3)) :
    Zero (n := 2048) (k := 2048) (φ := .bf16) ((dat4 V c).arrAt 7 cfg4.N) := fun i j =>
  congrFun (arr4_7 V c (fun i j => 0) fun t x y => by
    rw [out4_7_eq]
    exact k4_4 _ _ _ _ _ _ (k4_6 _ _ (rows4_5 V c d0 hd t)) (k4_7 _ _ _ _ _ _ (rows4_0 V c a h t) (fun i j => (whole4_1 V c t i j).trans (hb i j)) (fun i j => (whole4_2 V c t i j).trans (h2 i j)) (fun i j => (whole4_3 V c t i j).trans (h3 i j))) (k4_8 _ s hs ((corner_at _).trans ((acc4_4 V c t).trans hv))) x y) (ix2 i j)
theorem call4_8 (hs : 0 ≤ s) (hv : (V c main_v2_1 : FVec Ideal S8x128 .f32) (ix2 0 0) = ((s : ℝ) : EReal)) (h : Holds (n := 2048) (k := 2048) (φ := .f32) (V c main_v2_0) a) (hd : Holds (n := 2048) (k := 2048) (φ := .f32) (V c main_v3_0) d0) (hb : Holds (n := 2048) (k := 2048) (φ := .bf16) (V c main_v3_1) d0) (h2 : Zero (n := 2048) (k := 2048) (φ := .bf16) (V c main_v3_2)) (h3 : Zero (n := 2048) (k := 2048) (φ := .bf16) (V c main_v3_3)) :
    Zero (n := 2048) (k := 2048) (φ := .bf16) ((dat4 V c).arrAt 8 cfg4.N) := fun i j =>
  congrFun (arr4_8 V c (fun i j => 0) fun t x y => by
    rw [out4_8_eq]
    exact k4_5 _ _ _ _ _ _ (k4_6 _ _ (rows4_5 V c d0 hd t)) (k4_7 _ _ _ _ _ _ (rows4_0 V c a h t) (fun i j => (whole4_1 V c t i j).trans (hb i j)) (fun i j => (whole4_2 V c t i j).trans (h2 i j)) (fun i j => (whole4_3 V c t i j).trans (h3 i j))) (k4_8 _ s hs ((corner_at _).trans ((acc4_4 V c t).trans hv))) x y) (ix2 i j)
theorem block5 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v4_0) d1) (h2 : Zero (n := 2048) (k := 2048) (φ := .bf16) (V c main_v4_1)) (h3 : Zero (n := 2048) (k := 2048) (φ := .bf16) (V c main_v4_2)) (t : Fin cfg5.N) :
    Holds (n := 256) (k := 2048) (φ := .f32) (k5_pay2 (corner (iblk5 V c 4 t)) (iblk5 V c 0 t) (iblk5 V c 1 t) (iblk5 V c 2 t) (iblk5 V c 3 t)) (rowsOf (fun i j => (0 - 1 / 2 * alpha s) * mulN a d1 i j) (pt5 t)) :=
  k5_2 _ _ _ _ _ _ _ s hs ((corner_at _).trans ((acc5_4 V c t).trans hv)) (rows5_0 V c a h t) (fun i j => (whole5_1 V c t i j).trans (hb i j)) (fun i j => (whole5_2 V c t i j).trans (h2 i j)) (fun i j => (whole5_3 V c t i j).trans (h3 i j))
theorem call5_7 (hs : 0 ≤ s) (hv : (V c main_v2_1 : FVec Ideal S8x128 .f32) (ix2 0 0) = ((s : ℝ) : EReal)) (h : Holds (n := 2048) (k := 2048) (φ := .f32) (V c main_v2_0) a) (hb : Holds (n := 2048) (k := 2048) (φ := .bf16) (V c main_v4_0) d1) (h2 : Zero (n := 2048) (k := 2048) (φ := .bf16) (V c main_v4_1)) (h3 : Zero (n := 2048) (k := 2048) (φ := .bf16) (V c main_v4_2)) :
    Holds (n := 2048) (k := 2048) (φ := .f32) ((dat5 V c).arrAt 7 cfg5.N) (fun i j => (0 - 1 / 2 * alpha s) * mulN a d1 i j) := fun i j =>
  congrFun (arr5_7 V c (fun i j => (((0 - 1 / 2 * alpha s) * mulN a d1 i j : ℝ) : EReal)) fun t x y => by
    rw [out5_7_eq]; exact (block5 V c a d1 s hs hv h hb h2 h3 t) x y) (ix2 i j)
theorem call5_6 (hs : 0 ≤ s) (hv : (V c main_v2_1 : FVec Ideal S8x128 .f32) (ix2 0 0) = ((s : ℝ) : EReal)) (h : Holds (n := 2048) (k := 2048) (φ := .f32) (V c main_v2_0) a) (hd : Holds (n := 2048) (k := 2048) (φ := .f32) (V c main_v3_0) d0) (hb : Holds (n := 2048) (k := 2048) (φ := .bf16) (V c main_v4_0) d1) (h2 : Zero (n := 2048) (k := 2048) (φ := .bf16) (V c main_v4_1)) (h3 : Zero (n := 2048) (k := 2048) (φ := .bf16) (V c main_v4_2)) :
    Holds (n := 2048) (k := 2048) (φ := .f32) ((dat5 V c).arrAt 6 cfg5.N) (fun i j => d0 i j + (0 - 1 / 2 * alpha s) * mulN a d1 i j) := fun i j =>
  congrFun (arr5_6 V c (fun i j => ((d0 i j + (0 - 1 / 2 * alpha s) * mulN a d1 i j : ℝ) : EReal)) fun t x y => by
    rw [out5_6_eq]; exact k5_1 _ _ _ _ (rows5_5 V c d0 hd t) (block5 V c a d1 s hs hv h hb h2 h3 t) x y) (ix2 i j)
end

/-! ## The calls in order -/

section
variable (m : (ℓ : Loc nD τ sig) → Buf (Elt Ideal) ℓ) (ρ : Dev nD → PrngReg) (c : Dev nD) (g r : RMat 2048 2048)

abbrev skw : RMat 2048 2048 := skew (mulT g r)
abbrev sq : ℝ := ssum (skw g r)

theorem sq_nonneg : 0 ≤ sq g r := ssum_nonneg _

variable (hg : Holds (n := 2048) (k := 2048) (φ := .f32) (m ((c : Thread nD τ).loc main_arg0)) g) (hr : Holds (n := 2048) (k := 2048) (φ := .f32) (m ((c : Thread nD τ).loc main_arg1)) r)

theorem e1_arg0 (hg : Holds (n := 2048) (k := 2048) (φ := .f32) (m ((c : Thread nD τ).loc main_arg0)) g) : Holds (n := 2048) (k := 2048) (φ := .f32) (V1 m ρ c main_arg0) g :=
  fun i j => (congrFun (W1_of m ρ c main_arg0 (by decide +kernel)) (ix2 i j)).trans (hg i j)
theorem e1_0 (hr : Holds (n := 2048) (k := 2048) (φ := .f32) (m ((c : Thread nD τ).loc main_arg1)) r) : Holds (n := 2048) (k := 2048) (φ := .bf16) (V1 m ρ c main_v0_0) r :=
  fun i j => (congrFun (W1_arr m ρ c 1) (ix2 i j)).trans (call0_1 (V0 m ρ) c r hr i j)
theorem e1_1 (hr : Holds (n := 2048) (k := 2048) (φ := .f32) (m ((c : Thread nD τ).loc main_arg1)) r) : Zero (n := 2048) (k := 2048) (φ := .bf16) (V1 m ρ c main_v0_1) :=
  fun i j => (congrFun (W1_arr m ρ c 2) (ix2 i j)).trans (call0_2 (V0 m ρ) c r hr i j)
theorem e1_2 (hr : Holds (n := 2048) (k := 2048) (φ := .f32) (m ((c : Thread nD τ).loc main_arg1)) r) : Zero (n := 2048) (k := 2048) (φ := .bf16) (V1 m ρ c main_v0_2) :=
  fun i j => (congrFun (W1_arr m ρ c 3) (ix2 i j)).trans (call0_3 (V0 m ρ) c r hr i j)
theorem e2_p (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V2 m ρ c main_v1) (mulT g r) :=
  fun i j => (congrFun (W2_arr m ρ c 4) (ix2 i j)).trans (call1_4 (V1 m ρ) c g r (e1_arg0 m ρ c g hg) (e1_0 m ρ c r hr) (e1_1 m ρ c r hr) (e1_2 m ρ c r hr) i j)
theorem e2_0 (hr : Holds (n := 2048) (k := 2048) (φ := .f32) (m ((c : Thread nD τ).loc main_arg1)) r) : Holds (n := 2048) (k := 2048) (φ := .bf16) (V2 m ρ c main_v0_0) r :=
  fun i j => (congrFun (W2_of m ρ c main_v0_0 (by decide +kernel)) (ix2 i j)).trans (e1_0 m ρ c r hr i j)
theorem e2_1 (hr : Holds (n := 2048) (k := 2048) (φ := .f32) (m ((c : Thread nD τ).loc main_arg1)) r) : Zero (n := 2048) (k := 2048) (φ := .bf16) (V2 m ρ c main_v0_1) :=
  fun i j => (congrFun (W2_of m ρ c main_v0_1 (by decide +kernel)) (ix2 i j)).trans (e1_1 m ρ c r hr i j)
theorem e2_2 (hr : Holds (n := 2048) (k := 2048) (φ := .f32) (m ((c : Thread nD τ).loc main_arg1)) r) : Zero (n := 2048) (k := 2048) (φ := .bf16) (V2 m ρ c main_v0_2) :=
  fun i j => (congrFun (W2_of m ρ c main_v0_2 (by decide +kernel)) (ix2 i j)).trans (e1_2 m ρ c r hr i j)
theorem e3_0 (hr : Holds (n := 2048) (k := 2048) (φ := .f32) (m ((c : Thread nD τ).loc main_arg1)) r) : Holds (n := 2048) (k := 2048) (φ := .bf16) (V3 m ρ c main_v0_0) r :=
  fun i j => (congrFun (W3_of m ρ c main_v0_0 (by decide +kernel)) (ix2 i j)).trans (e2_0 m ρ c r hr i j)
theorem e3_1 (hr : Holds (n := 2048) (k := 2048) (φ := .f32) (m ((c : Thread nD τ).loc main_arg1)) r) : Zero (n := 2048) (k := 2048) (φ := .bf16) (V3 m ρ c main_v0_1) :=
  fun i j => (congrFun (W3_of m ρ c main_v0_1 (by decide +kernel)) (ix2 i j)).trans (e2_1 m ρ c r hr i j)
theorem e3_2 (hr : Holds (n := 2048) (k := 2048) (φ := .f32) (m ((c : Thread nD τ).loc main_arg1)) r) : Zero (n := 2048) (k := 2048) (φ := .bf16) (V3 m ρ c main_v0_2) :=
  fun i j => (congrFun (W3_of m ρ c main_v0_2 (by decide +kernel)) (ix2 i j)).trans (e2_2 m ρ c r hr i j)
theorem e3_a (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V3 m ρ c main_v2_0) (skw g r) :=
  fun i j => (congrFun (W3_arr m ρ c 2) (ix2 i j)).trans (skew_holds (V2 m ρ) c _ (e2_p m ρ c g r hg hr) i j)
theorem e3_s (hg : Holds (n := 2048) (k := 2048) (φ := .f32) (m ((c : Thread nD τ).loc main_arg0)) g) (hr : Holds (n := 2048) (k := 2048) (φ := .f32) (m ((c : Thread nD τ).loc main_arg1)) r) : (V3 m ρ c main_v2_1 : FVec Ideal S8x128 .f32) (ix2 0 0) = ((sq g r : ℝ) : EReal) :=
  (congrFun (W3_arr m ρ c 3) (ix2 0 0)).trans (ssum_holds (V2 m ρ) c _ (e2_p m ρ c g r hg hr))
theorem e4_a (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V4 m ρ c main_v2_0) (skw g r) :=
  fun i j => (congrFun (W4_of m ρ c main_v2_0 (by decide +kernel)) (ix2 i j)).trans (e3_a m ρ c g r hg hr i j)
theorem e4_s (hg : Holds (n := 2048) (k := 2048) (φ := .f32) (m ((c : Thread nD τ).loc main_arg0)) g) (hr : Holds (n := 2048) (k := 2048) (φ := .f32) (m ((c : Thread nD τ).loc main_arg1)) r) : (V4 m ρ c main_v2_1 : FVec Ideal S8x128 .f32) (ix2 0 0) = ((sq g r : ℝ) : EReal) :=
  (congrFun (W4_of m ρ c main_v2_1 (by decide +kernel)) (ix2 0 0)).trans (e3_s m ρ c g r hg hr)
theorem e5_a (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V5 m ρ c main_v2_0) (skw g r) :=
  fun i j => (congrFun (W5_of m ρ c main_v2_0 (by decide +kernel)) (ix2 i j)).trans (e4_a m ρ c g r hg hr i j)
theorem e5_s (hg : Holds (n := 2048) (k := 2048) (φ := .f32) (m ((c : Thread nD τ).loc main_arg0)) g) (hr : Holds (n := 2048) (k := 2048) (φ := .f32) (m ((c : Thread nD τ).loc main_arg1)) r) : (V5 m ρ c main_v2_1 : FVec Ideal S8x128 .f32) (ix2 0 0) = ((sq g r : ℝ) : EReal) :=
  (congrFun (W5_of m ρ c main_v2_1 (by decide +kernel)) (ix2 0 0)).trans (e4_s m ρ c g r hg hr)
theorem e4_d (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V4 m ρ c main_v3_0) (delta0 (sq g r) (skw g r) r) :=
  fun i j => (congrFun (W4_arr m ρ c 5) (ix2 i j)).trans (call3_5 (V3 m ρ) c r (skw g r) (sq g r) (sq_nonneg g r) (e3_s m ρ c g r hg hr) (e3_a m ρ c g r hg hr) (e3_0 m ρ c r hr) (e3_1 m ρ c r hr) (e3_2 m ρ c r hr) i j)
theorem e4_0 (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .bf16) (V4 m ρ c main_v3_1) (delta0 (sq g r) (skw g r) r) :=
  fun i j => (congrFun (W4_arr m ρ c 6) (ix2 i j)).trans (call3_6 (V3 m ρ) c r (skw g r) (sq g r) (sq_nonneg g r) (e3_s m ρ c g r hg hr) (e3_a m ρ c g r hg hr) (e3_0 m ρ c r hr) (e3_1 m ρ c r hr) (e3_2 m ρ c r hr) i j)
theorem e4_1 (hg : Holds (n := 2048) (k := 2048) (φ := .f32) (m ((c : Thread nD τ).loc main_arg0)) g) (hr : Holds (n := 2048) (k := 2048) (φ := .f32) (m ((c : Thread nD τ).loc main_arg1)) r) : Zero (n := 2048) (k := 2048) (φ := .bf16) (V4 m ρ c main_v3_2) :=
  fun i j => (congrFun (W4_arr m ρ c 7) (ix2 i j)).trans (call3_7 (V3 m ρ) c r (skw g r) (sq g r) (sq_nonneg g r) (e3_s m ρ c g r hg hr) (e3_a m ρ c g r hg hr) (e3_0 m ρ c r hr) (e3_1 m ρ c r hr) (e3_2 m ρ c r hr) i j)
theorem e4_2 (hg : Holds (n := 2048) (k := 2048) (φ := .f32) (m ((c : Thread nD τ).loc main_arg0)) g) (hr : Holds (n := 2048) (k := 2048) (φ := .f32) (m ((c : Thread nD τ).loc main_arg1)) r) : Zero (n := 2048) (k := 2048) (φ := .bf16) (V4 m ρ c main_v3_3) :=
  fun i j => (congrFun (W4_arr m ρ c 8) (ix2 i j)).trans (call3_8 (V3 m ρ) c r (skw g r) (sq g r) (sq_nonneg g r) (e3_s m ρ c g r hg hr) (e3_a m ρ c g r hg hr) (e3_0 m ρ c r hr) (e3_1 m ρ c r hr) (e3_2 m ρ c r hr) i j)
theorem e5_0 (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .bf16) (V5 m ρ c main_v4_0) (delta1 (sq g r) (skw g r) r) :=
  fun i j => (congrFun (W5_arr m ρ c 6) (ix2 i j)).trans (call4_6 (V4 m ρ) c (skw g r) (delta0 (sq g r) (skw g r) r) (sq g r) (sq_nonneg g r) (e4_s m ρ c g r hg hr) (e4_a m ρ c g r hg hr) (e4_d m ρ c g r hg hr) (e4_0 m ρ c g r hg hr) (e4_1 m ρ c g r hg hr) (e4_2 m ρ c g r hg hr) i j)
theorem e5_1 (hg : Holds (n := 2048) (k := 2048) (φ := .f32) (m ((c : Thread nD τ).loc main_arg0)) g) (hr : Holds (n := 2048) (k := 2048) (φ := .f32) (m ((c : Thread nD τ).loc main_arg1)) r) : Zero (n := 2048) (k := 2048) (φ := .bf16) (V5 m ρ c main_v4_1) :=
  fun i j => (congrFun (W5_arr m ρ c 7) (ix2 i j)).trans (call4_7 (V4 m ρ) c (skw g r) (delta0 (sq g r) (skw g r) r) (sq g r) (sq_nonneg g r) (e4_s m ρ c g r hg hr) (e4_a m ρ c g r hg hr) (e4_d m ρ c g r hg hr) (e4_0 m ρ c g r hg hr) (e4_1 m ρ c g r hg hr) (e4_2 m ρ c g r hg hr) i j)
theorem e5_2 (hg : Holds (n := 2048) (k := 2048) (φ := .f32) (m ((c : Thread nD τ).loc main_arg0)) g) (hr : Holds (n := 2048) (k := 2048) (φ := .f32) (m ((c : Thread nD τ).loc main_arg1)) r) : Zero (n := 2048) (k := 2048) (φ := .bf16) (V5 m ρ c main_v4_2) :=
  fun i j => (congrFun (W5_arr m ρ c 8) (ix2 i j)).trans (call4_8 (V4 m ρ) c (skw g r) (delta0 (sq g r) (skw g r) r) (sq g r) (sq_nonneg g r) (e4_s m ρ c g r hg hr) (e4_a m ρ c g r hg hr) (e4_d m ρ c g r hg hr) (e4_0 m ρ c g r hg hr) (e4_1 m ρ c g r hg hr) (e4_2 m ρ c g r hg hr) i j)
theorem e5_d (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V5 m ρ c main_v3_0) (delta0 (sq g r) (skw g r) r) :=
  fun i j => (congrFun (W5_of m ρ c main_v3_0 (by decide +kernel)) (ix2 i j)).trans (e4_d m ρ c g r hg hr i j)
theorem e6_r (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V6 m ρ c main_v5_0) (deltaR (sq g r) (skw g r) r) :=
  fun i j => (congrFun (W6_arr m ρ c 6) (ix2 i j)).trans (call5_6 (V5 m ρ) c (skw g r) (delta0 (sq g r) (skw g r) r) (delta1 (sq g r) (skw g r) r) (sq g r) (sq_nonneg g r) (e5_s m ρ c g r hg hr) (e5_a m ρ c g r hg hr) (e5_d m ρ c g r hg hr) (e5_0 m ρ c g r hg hr) (e5_1 m ρ c g r hg hr) (e5_2 m ρ c g r hg hr) i j)
theorem e6_c (hg : Holds (n := 2048) (k := 2048) (φ := .f32) (m ((c : Thread nD τ).loc main_arg0)) g) (hr : Holds (n := 2048) (k := 2048) (φ := .f32) (m ((c : Thread nD τ).loc main_arg1)) r) : Holds (n := 2048) (k := 2048) (φ := .f32) (V6 m ρ c main_v5_1) (corr (sq g r) (skw g r) r) :=
  fun i j => (congrFun (W6_arr m ρ c 7) (ix2 i j)).trans (call5_7 (V5 m ρ) c (skw g r) (delta1 (sq g r) (skw g r) r) (sq g r) (sq_nonneg g r) (e5_s m ρ c g r hg hr) (e5_a m ρ c g r hg hr) (e5_0 m ρ c g r hg hr) (e5_1 m ρ c g r hg hr) (e5_2 m ρ c g r hg hr) i j)
end

/-! ## The run -/

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

section
variable (m : (ℓ : Loc nD τ sig) → Buf (Elt Ideal) ℓ) (ρ : Dev nD → PrngReg)

set_option backward.isDefEq.respectTransparency.types false in
/-- Every run ends with the two results at what the last call leaves and the arguments as launched. -/
theorem run : θ_run (defs (F := Ideal)) (onTc (τ := τ) (main (F := Ideal))) ⟨m, fun _ => 0, ρ⟩ (fun r => ∀ c : Dev nD,
      r.2.mem ((c.tc : Thread nD τ).loc main_v5_0) = V6 m ρ c main_v5_0
      ∧ r.2.mem ((c.tc : Thread nD τ).loc main_v5_1) = V6 m ρ c main_v5_1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c => ⟨h c _ (mem_uc main_v5_0 (by decide)), h c _ (mem_uc main_v5_1 (by decide)),
       (h c _ (mem_uc main_arg0 (by decide))).trans (W6_main_arg0 m ρ c),
       (h c _ (mem_uc main_arg1 (by decide))).trans (W6_main_arg1 m ρ c)⟩)
end

end Cert.TailIdeal.Tail

end
-- ==== Proof.TailRef.lean ====
/- The plainly written tail over the real numbers. -/
module

public import proofs.«01_k».proof.Proof.Gen.TailReferenceIdeal.Run
public import proofs.«01_k».proof.Proof.Gen.TailReferenceIdeal.Read
public import proofs.«01_k».proof.Proof.TailSpec

@[expose] public section

set_option maxRecDepth 16384

noncomputable section

namespace Cert.TailReferenceIdeal.Tail

open Cert.TailReferenceIdeal Cert.TailReferenceIdeal.Read Idealize.ShloMosaic Cert.TailSpec

variable (x0 x1 : (⟨S2048x2048, .f32⟩ : BufTy).Contents (Elt Ideal)) (g r : RMat 2048 2048)

/-- A float matrix holds the reals of `a`. -/
def Holds (x : (⟨S2048x2048, .f32⟩ : BufTy).Contents (Elt Ideal)) (a : RMat 2048 2048) : Prop := ∀ i j, x (ix2 i j) = ((a i j : ℝ) : EReal)

section
variable (h0 : Holds x0 g) (h1 : Holds x1 r)
include h0 h1

theorem p_at : Holds (val_main_v1 (F := Ideal) x0 x1) (mulT g r) := fun i j => by
  unfold val_main_v1 val_main_v0
  pointwise []
  simp only [h0 _ _, h1 _ _]
  exact coe_dot _ _

theorem skew_at : Holds (val_main_v3 (F := Ideal) x0 x1) (skew (mulT g r)) := fun i j => by
  have h := p_at x0 x1 g r h0 h1
  unfold val_main_v3 val_main_v2
  obtain ⟨y, ey⟩ : ∃ y, val_main_v1 (F := Ideal) x0 x1 = y := ⟨_, rfl⟩
  rw [ey] at h ⊢
  pointwise []
  rw [h i j, h j i, ← EReal.coe_sub]
  rfl

theorem ssum_at (i : S_.Idx) : val_main_v5 (F := Ideal) x0 x1 i = ((ssum (skew (mulT g r)) : ℝ) : EReal) := by
  have h := skew_at x0 x1 g r h0 h1
  unfold val_main_v5 val_main_v4 val_main_cst
  obtain ⟨y, ey⟩ : ∃ y, val_main_v3 (F := Ideal) x0 x1 = y := ⟨_, rfl⟩
  rw [ey] at h ⊢
  obtain ⟨a, ea⟩ : ∃ a, skew (mulT g r) = a := ⟨_, rfl⟩
  rw [ea] at h ⊢
  pointwise []
  unfold ssum
  rw [← coe_sum]
  refine Finset.sum_congr rfl fun i _ => ?_
  rw [← coe_sum]
  exact Finset.sum_congr rfl fun j _ => by rw [h i j, EReal.coe_mul]

theorem alpha_at (i : S_.Idx) : val_main_v8 (F := Ideal) x0 x1 i = ((alpha (ssum (skew (mulT g r))) : ℝ) : EReal) := by
  have h := ssum_at x0 x1 g r h0 h1
  unfold val_main_v8 val_main_v7 val_main_v6 val_main_cst_0 val_main_cst_1
  obtain ⟨y, ey⟩ : ∃ y, val_main_v5 (F := Ideal) x0 x1 = y := ⟨_, rfl⟩
  rw [ey] at h ⊢
  have hs := ssum_nonneg (skew (mulT g r))
  obtain ⟨s, es⟩ : ∃ s, ssum (skew (mulT g r)) = s := ⟨_, rfl⟩
  rw [es] at h hs ⊢
  pointwise []
  rw [h, eps_eq, ← EReal.coe_one, alpha_eq s hs]

theorem nalpha_at (i : S_.Idx) : val_main_v10 (F := Ideal) x0 x1 i = ((-(alpha (ssum (skew (mulT g r)))) : ℝ) : EReal) := by
  have h := alpha_at x0 x1 g r h0 h1
  unfold val_main_v10
  obtain ⟨y, ey⟩ : ∃ y, val_main_v8 (F := Ideal) x0 x1 = y := ⟨_, rfl⟩
  rw [ey] at h ⊢
  pointwise []
  rw [h, EReal.coe_neg]

theorem nhalf_at (i : S_.Idx) : val_main_v14 (F := Ideal) x0 x1 i = ((-(1 / 2 * alpha (ssum (skew (mulT g r)))) : ℝ) : EReal) := by
  have h := alpha_at x0 x1 g r h0 h1
  unfold val_main_v14 val_main_v9 val_main_cst_2
  obtain ⟨y, ey⟩ : ∃ y, val_main_v8 (F := Ideal) x0 x1 = y := ⟨_, rfl⟩
  rw [ey] at h ⊢
  pointwise []
  rw [h, half_eq, EReal.coe_neg, EReal.coe_mul]

theorem nhalf2_at (i : S_.Idx) : val_main_v21 (F := Ideal) x0 x1 i = ((-(1 / 2 * alpha (ssum (skew (mulT g r)))) : ℝ) : EReal) := by
  have h := alpha_at x0 x1 g r h0 h1
  unfold val_main_v21 val_main_v9 val_main_cst_2
  obtain ⟨y, ey⟩ : ∃ y, val_main_v8 (F := Ideal) x0 x1 = y := ⟨_, rfl⟩
  rw [ey] at h ⊢
  pointwise []
  rw [h, half_eq, EReal.coe_neg, EReal.coe_mul]

theorem step0_at : Holds (val_main_v13 (F := Ideal) x0 x1) (delta0 (ssum (skew (mulT g r))) (skew (mulT g r)) r) := fun i j => by
  have h := skew_at x0 x1 g r h0 h1
  have ha := nalpha_at x0 x1 g r h0 h1
  unfold val_main_v13 val_main_v12 val_main_v11
  obtain ⟨y, ey⟩ : ∃ y, val_main_v3 (F := Ideal) x0 x1 = y := ⟨_, rfl⟩
  obtain ⟨z, ez⟩ : ∃ z, val_main_v10 (F := Ideal) x0 x1 = z := ⟨_, rfl⟩
  rw [ey] at h ⊢
  rw [ez] at ha ⊢
  obtain ⟨s, es⟩ : ∃ s, ssum (skew (mulT g r)) = s := ⟨_, rfl⟩
  obtain ⟨a, ea⟩ : ∃ a, skew (mulT g r) = a := ⟨_, rfl⟩
  rw [es] at ha ⊢
  rw [ea] at h ⊢
  pointwise []
  simp only [ha, h _ _, h1 _ _]
  rw [coe_dot, ← EReal.coe_mul]
  unfold delta0 mulN
  rw [zero_sub]

theorem round1_at : Holds (val_main_v20 (F := Ideal) x0 x1) (fix1 (ssum (skew (mulT g r))) (skew (mulT g r)) r) := fun i j => by
  have h := skew_at x0 x1 g r h0 h1
  have hd := step0_at x0 x1 g r h0 h1
  have ha := nhalf_at x0 x1 g r h0 h1
  unfold val_main_v20 val_main_v19 val_main_v18 val_main_v17 val_main_v16 val_main_v15 val_main_cst_3
  obtain ⟨y, ey⟩ : ∃ y, val_main_v3 (F := Ideal) x0 x1 = y := ⟨_, rfl⟩
  obtain ⟨z, ez⟩ : ∃ z, val_main_v14 (F := Ideal) x0 x1 = z := ⟨_, rfl⟩
  obtain ⟨d, ed⟩ : ∃ d, val_main_v13 (F := Ideal) x0 x1 = d := ⟨_, rfl⟩
  rw [ey] at h ⊢
  rw [ez] at ha ⊢
  rw [ed] at hd ⊢
  obtain ⟨s, es⟩ : ∃ s, ssum (skew (mulT g r)) = s := ⟨_, rfl⟩
  obtain ⟨a, ea⟩ : ∃ a, skew (mulT g r) = a := ⟨_, rfl⟩
  rw [es] at ha hd ⊢
  rw [ea] at h hd ⊢
  unfold fix1
  obtain ⟨e, ee⟩ : ∃ e, delta0 s a r = e := ⟨_, rfl⟩
  rw [ee] at hd ⊢
  pointwise []
  simp only [ha, h _ _, h1 _ _, hd _ _, two_eq, ← EReal.coe_mul, ← EReal.coe_add]
  rw [coe_sum, ← EReal.coe_mul]
  rfl

theorem round2_at : Holds (val_main_v27 (F := Ideal) x0 x1) (fix2 (ssum (skew (mulT g r))) (skew (mulT g r)) r) := fun i j => by
  have h := skew_at x0 x1 g r h0 h1
  have hd := round1_at x0 x1 g r h0 h1
  have ha := nhalf2_at x0 x1 g r h0 h1
  unfold val_main_v27 val_main_v26 val_main_v25 val_main_v24 val_main_v23 val_main_v22 val_main_cst_4
  obtain ⟨y, ey⟩ : ∃ y, val_main_v3 (F := Ideal) x0 x1 = y := ⟨_, rfl⟩
  obtain ⟨z, ez⟩ : ∃ z, val_main_v21 (F := Ideal) x0 x1 = z := ⟨_, rfl⟩
  obtain ⟨d, ed⟩ : ∃ d, val_main_v20 (F := Ideal) x0 x1 = d := ⟨_, rfl⟩
  rw [ey] at h ⊢
  rw [ez] at ha ⊢
  rw [ed] at hd ⊢
  obtain ⟨s, es⟩ : ∃ s, ssum (skew (mulT g r)) = s := ⟨_, rfl⟩
  obtain ⟨a, ea⟩ : ∃ a, skew (mulT g r) = a := ⟨_, rfl⟩
  rw [es] at ha hd ⊢
  rw [ea] at h hd ⊢
  unfold fix2
  obtain ⟨e, ee⟩ : ∃ e, fix1 s a r = e := ⟨_, rfl⟩
  rw [ee] at hd ⊢
  pointwise []
  simp only [ha, h _ _, h1 _ _, hd _ _, two_eq, ← EReal.coe_mul, ← EReal.coe_add]
  rw [coe_sum, ← EReal.coe_mul]
  rfl

/-- The two results. -/
theorem result1_at : Holds (val_main_v27 (F := Ideal) x0 x1) (deltaR (ssum (skew (mulT g r))) (skew (mulT g r)) r) := by
  rw [← fix2_eq]; exact round2_at x0 x1 g r h0 h1

theorem result2_at : Holds (val_main_v28 (F := Ideal) x0 x1) (corr (ssum (skew (mulT g r))) (skew (mulT g r)) r) := fun i j => by
  have h := round2_at x0 x1 g r h0 h1
  have hd := step0_at x0 x1 g r h0 h1
  rw [← corr_eq]
  unfold val_main_v28
  obtain ⟨y, ey⟩ : ∃ y, val_main_v27 (F := Ideal) x0 x1 = y := ⟨_, rfl⟩
  obtain ⟨z, ez⟩ : ∃ z, val_main_v13 (F := Ideal) x0 x1 = z := ⟨_, rfl⟩
  rw [ey] at h ⊢
  rw [ez] at hd ⊢
  pointwise []
  rw [h i j, hd i j, EReal.coe_sub]
end

end Cert.TailReferenceIdeal.Tail

end
-- ==== Proof.TailResults.lean ====
/- The tail's two results: what the precondition says of the arguments, and both programs' runs as the same matrices. -/
module

public import proofs.«01_k».proof.Defs
public import proofs.«01_k».proof.Proof.TailFold
public import proofs.«01_k».proof.Proof.TailRef
public import proofs.«01_k».proof.Proof.Gen.Pre_finite
public import proofs.«01_k».proof.Proof.Gen.TailReferenceIdeal.Run
public import Idealize.ShloMosaic.Adequacy

@[expose] public section

set_option maxRecDepth 16384

noncomputable section

namespace Cert.TailResults

open Idealize.ShloMosaic Idealize.ShloMosaic.TcCoe Idealize.SL Idealize.SL.Sem Cert.TailSpec

/-! ## The precondition -/

/-- A comparison that reads one says its relation holds. -/
theorem bit_one {p : Prop} [Decidable p] (h : BitVec.ofBool (decide p) = 1#1) : p := by
  by_cases hp : p
  · exact hp
  · simp [hp] at h

section
open Cert.Pre_finite
variable [Cert.Pre_finite.Facts] (x y : FVec Ideal S2048x2048 .f32)

theorem first_lt (h : (fn (F := Ideal) x y).1 = fun _ => 1#1) (i j : Fin 2048) : max (x (ix2 i j)) (-(x (ix2 i j))) < (⊤ : EReal) := by
  have e := congrFun h (ix2 i j)
  rw [← inf_eq]
  exact bit_one e

theorem second_lt (h : (fn (F := Ideal) x y).2 = fun _ => 1#1) (i j : Fin 2048) : max (y (ix2 i j)) (-(y (ix2 i j))) < (⊤ : EReal) := by
  have e := congrFun h (ix2 i j)
  rw [← inf_eq]
  exact bit_one e
end

/-! ## The kernel -/

section
open Cert.TailIdeal Cert.TailIdeal.Tail
variable (m : (ℓ : Loc nD τ sig) → Buf (Elt Ideal) ℓ) (c : Dev nD)

/-- The real matrices in the two arguments. -/
def aG : RMat 2048 2048 := fun i j => EReal.toReal ((m ((c : Thread nD τ).loc main_arg0) : FVec Ideal ⟨2, ![2048, 2048]⟩ .f32) (ix2 i j))
def aR : RMat 2048 2048 := fun i j => EReal.toReal ((m ((c : Thread nD τ).loc main_arg1) : FVec Ideal ⟨2, ![2048, 2048]⟩ .f32) (ix2 i j))

def res0 : Buf (Elt Ideal) ((c.tc : Thread nD τ).loc main_v5_0) := fun i => ((deltaR (sq (aG m c) (aR m c)) (skw (aG m c) (aR m c)) (aR m c) (i 0) (i 1) : ℝ) : EReal)
def res1 : Buf (Elt Ideal) ((c.tc : Thread nD τ).loc main_v5_1) := fun i => ((corr (sq (aG m c) (aR m c)) (skw (aG m c) (aR m c)) (aR m c) (i 0) (i 1) : ℝ) : EReal)

/-- A float matrix that holds a real one is that matrix. -/
theorem eq_of_holds (x : FVec Ideal ⟨2, ![2048, 2048]⟩ .f32) (a : RMat 2048 2048) (h : Holds x a) : x = fun i => ((a (i 0) (i 1) : ℝ) : EReal) :=
  funext fun i => (congrArg x (eq_ix2 (n0 := 2048) (n1 := 2048) i)).trans (h (i 0) (i 1))

theorem holds_G (hp : Cert.Pre_TailIdeal_finite (hPre_finite := Cert.Pre_finite.Gen.facts) m) :
    Holds (n := 2048) (k := 2048) (φ := .f32) (m ((c : Thread nD τ).loc main_arg0)) (aG m c) := fun i j =>
  finite_coe _ (first_lt _ _ (hp c).1 i j)

theorem holds_R (hp : Cert.Pre_TailIdeal_finite (hPre_finite := Cert.Pre_finite.Gen.facts) m) :
    Holds (n := 2048) (k := 2048) (φ := .f32) (m ((c : Thread nD τ).loc main_arg1)) (aR m c) := fun i j =>
  finite_coe _ (second_lt _ _ (hp c).2 i j)

theorem kernel_run (hp : Cert.Pre_TailIdeal_finite (hPre_finite := Cert.Pre_finite.Gen.facts) m) (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = res0 m c
      ∧ r.2.mem ((c.tc : Thread nD τ).loc main_v5_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (eq_of_holds _ _ (e6_r m g c _ _ (holds_G m c hp) (holds_R m c hp))),
      (h c).2.1.trans (eq_of_holds _ _ (e6_c m g c _ _ (holds_G m c hp) (holds_R m c hp))), (h c).2.2⟩)
    (run m g)
end

/-! ## The reference -/

section
open Cert.TailReferenceIdeal Cert.TailReferenceIdeal.Read

theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v27) = val_main_v27 (F := Ideal) (m ((c.tc : Thread nD τ).loc main_arg0)) (m ((c.tc : Thread nD τ).loc main_arg1))
      ∧ r.2.mem ((c.tc : Thread nD τ).loc main_v28) = val_main_v28 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (val_main_v27_eq m c), (h c).2.1.trans (val_main_v28_eq m c), (h c).2.2⟩)
    (Cert.TailReferenceIdeal.Value.run m g)

variable (x0 x1 : (⟨S2048x2048, .f32⟩ : BufTy).Contents (Elt Ideal)) (g r : RMat 2048 2048)
variable (h0 : Cert.TailReferenceIdeal.Tail.Holds x0 g) (h1 : Cert.TailReferenceIdeal.Tail.Holds x1 r)
include h0 h1

theorem ref0 : val_main_v27 (F := Ideal) x0 x1 = fun i => ((deltaR (ssum (skew (mulT g r))) (skew (mulT g r)) r (i 0) (i 1) : ℝ) : EReal) :=
  Cert.TailResults.eq_of_holds _ _ (Cert.TailReferenceIdeal.Tail.result1_at x0 x1 g r h0 h1)

theorem ref1 : val_main_v28 (F := Ideal) x0 x1 = fun i => ((corr (ssum (skew (mulT g r))) (skew (mulT g r)) r (i 0) (i 1) : ℝ) : EReal) :=
  Cert.TailResults.eq_of_holds _ _ (Cert.TailReferenceIdeal.Tail.result2_at x0 x1 g r h0 h1)
end

/-! ## Both together -/

theorem frame_reference : Cert.quiescent_TailReferenceIdeal (hTailReferenceIdeal := Cert.TailReferenceIdeal.Gen.facts) := fun m g _ =>
  (θ_run Cert.TailReferenceIdeal.defs _ _).mono (fun r h => ⟨fun c => (h c).2.2,
      Idealize.ShloMosaic.sem_eq_zero_of_no_sems (by decide) r.2⟩)
    (reference_run m g)

theorem algebraic : Cert.algebraic_TailIdeal_TailReferenceIdeal_pre_finite (hTailIdeal := Cert.TailIdeal.Gen.facts)
    (hTailReferenceIdeal := Cert.TailReferenceIdeal.Gen.facts) (hPre_finite := Cert.Pre_finite.Gen.facts) := by
  intro m g m' g' hp hargs
  refine ⟨res0 m, res1 m, kernel_run m hp g, ?_⟩
  refine (θ_run (Cert.TailReferenceIdeal.defs (F := Ideal)) _ _).mono (fun r h c => ?_) (reference_run m' g')
  obtain ⟨h0, h1, ha⟩ := h c
  obtain ⟨e0, e1⟩ := hargs c
  rw [e0, e1] at h0 h1
  exact ⟨h0.trans (ref0 _ _ _ _ (holds_G m c hp) (holds_R m c hp)), h1.trans (ref1 _ _ _ _ (holds_G m c hp) (holds_R m c hp)), ha⟩

end Cert.TailResults

end
-- ==== Proof.lean ====
module

public import proofs.«01_k».proof.Defs
public import proofs.«01_k».proof.Proof.KbFrame
public import proofs.«01_k».proof.Proof.IdFrame
public import proofs.«01_k».proof.Proof.Results
public import proofs.«01_k».proof.Proof.TailResults
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Tail.Frame
public import proofs.«01_k».proof.Proof.Gen.TailIdeal.Frame
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := fun m g _ =>
  (θ_run Cert.ReferenceIdeal.defs _ _).mono (fun r h => ⟨fun c => (h c).2.2.2.2.2.2.2.2.2,
      Idealize.ShloMosaic.sem_eq_zero_of_no_sems (by decide) r.2⟩)
    (Cert.Results.reference_run m g)

theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.Results.res0 m, Cert.Results.res1 m, Cert.Results.res2 m, Cert.Results.res3 m, Cert.Results.res4 m, Cert.Results.res5 m, Cert.Results.res6 m, Cert.Results.res7 m, Cert.Results.res8 m, Cert.Results.kernel_run m g, ?_⟩
  refine (θ_run (Cert.ReferenceIdeal.defs (F := Ideal)) _ _).mono (fun r h c => ?_) (Cert.Results.reference_run m' g')
  obtain ⟨h0, h1, h2, h3, h4, h5, h6, h7, h8, ha⟩ := h c
  obtain ⟨e0, e1, e2, e3⟩ := hargs c
  rw [e0, e1, e2, e3] at h0 h1 h2
  rw [e0, e3] at h3 h4
  rw [e1, e3] at h5 h6
  rw [e2, e3] at h7 h8
  exact ⟨h0.trans (Cert.Results.ref0 _ _ _ _), h1.trans (Cert.Results.ref1 _ _ _ _), h2.trans (Cert.Results.ref2 _ _ _ _), h3.trans (Cert.Results.ref3 _ _), h4.trans (Cert.Results.ref4 _ _), h5.trans (Cert.Results.ref5 _ _), h6.trans (Cert.Results.ref6 _ _), h7.trans (Cert.Results.ref7 _ _), h8.trans (Cert.Results.ref8 _ _), ha⟩

theorem claim : Cert.Claim := ⟨Cert.Kernel.Gen.facts, Cert.KernelIdeal.Gen.facts, Cert.ReferenceIdeal.Gen.facts,
  Cert.Tail.Gen.facts, Cert.TailIdeal.Gen.facts, Cert.TailReferenceIdeal.Gen.facts, Cert.Pre_finite.Gen.facts,
  fun m g _ => Cert.Kernel.Front.frame m g, fun m g _ => Cert.KernelIdeal.Front.frame m g, frame_reference,
  fun m g _ => Cert.Tail.Gen.frame m g, fun m g _ => Cert.TailIdeal.Gen.frame m g, fun m g _ => Cert.TailIdeal.Gen.frame m g,
  Cert.TailResults.frame_reference, fun m g _ => Cert.TailResults.frame_reference m g trivial, trivial, algebraic, trivial, Cert.TailResults.algebraic⟩

end Cert.Proof

end
